-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_InProjARefIdeal (m : (ℓ : Loc Cert.InProjARefIdeal.nD Cert.InProjARefIdeal.τ Cert.InProjARefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_TailLast (m : (ℓ : Loc Cert.TailLast.nD Cert.TailLast.τ Cert.TailLast.sig) → Buf (Elt Bits) ℓ) : Prop :=
  True

def Pre_TailLastIdeal (m : (ℓ : Loc Cert.TailLastIdeal.nD Cert.TailLastIdeal.τ Cert.TailLastIdeal.sig) → Buf (Elt Ideal) ℓ) : Prop :=
  True

def Pre_TailLastRefIdeal (m : (ℓ : Loc Cert.TailLastRefIdeal.nD Cert.TailLastRefIdeal.τ Cert.TailLastRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_qk [hPre_finite_qk : Cert.Pre_finite_qk.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_qk.fn (F := Ideal) (m ((c.tc : Thread Cert.AttnCIdeal.nD Cert.AttnCIdeal.τ).loc Cert.AttnCIdeal.main_arg0)) (m ((c.tc : Thread Cert.AttnCIdeal.nD Cert.AttnCIdeal.τ).loc Cert.AttnCIdeal.main_arg1)) (m ((c.tc : Thread Cert.AttnCIdeal.nD Cert.AttnCIdeal.τ).loc Cert.AttnCIdeal.main_arg2))) = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_qk [hPre_finite_qk : Cert.Pre_finite_qk.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_qk.fn (F := Ideal) (m ((c.tc : Thread Cert.AttnCRefIdeal.nD Cert.AttnCRefIdeal.τ).loc Cert.AttnCRefIdeal.main_arg0)) (m ((c.tc : Thread Cert.AttnCRefIdeal.nD Cert.AttnCRefIdeal.τ).loc Cert.AttnCRefIdeal.main_arg1)) (m ((c.tc : Thread Cert.AttnCRefIdeal.nD Cert.AttnCRefIdeal.τ).loc Cert.AttnCRefIdeal.main_arg2))) = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_a [hPre_finite_a : Cert.Pre_finite_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1))) = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_a [hPre_finite_a : Cert.Pre_finite_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1))) = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_b [hPre_finite_b : Cert.Pre_finite_b.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_b.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_b [hPre_finite_b : Cert.Pre_finite_b.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_TailLast [hTailLast : Cert.TailLast.Facts] : Prop :=
  ∀ (m : (ℓ : Loc Cert.TailLast.nD Cert.TailLast.τ Cert.TailLast.sig) → Buf (Elt Bits) ℓ) (g : Dev Cert.TailLast.nD → PrngReg), Pre_TailLast m →
    θ_run (Cert.TailLast.defs (F := Bits)) (onTc (τ := Cert.TailLast.τ) (Cert.TailLast.main (F := Bits))) ⟨m, fun _ => 0, g⟩ (fun r => (∀ c : Dev Cert.TailLast.nD,
      r.2.mem ((c.tc : Thread Cert.TailLast.nD Cert.TailLast.τ).loc Cert.TailLast.main_arg0) = m ((c.tc : Thread Cert.TailLast.nD Cert.TailLast.τ).loc Cert.TailLast.main_arg0)
      ∧ r.2.mem ((c.tc : Thread Cert.TailLast.nD Cert.TailLast.τ).loc Cert.TailLast.main_arg1) = m ((c.tc : Thread Cert.TailLast.nD Cert.TailLast.τ).loc Cert.TailLast.main_arg1)
      ∧ r.2.mem ((c.tc : Thread Cert.TailLast.nD Cert.TailLast.τ).loc Cert.TailLast.main_arg2) = m ((c.tc : Thread Cert.TailLast.nD Cert.TailLast.τ).loc Cert.TailLast.main_arg2)
      ∧ r.2.mem ((c.tc : Thread Cert.TailLast.nD Cert.TailLast.τ).loc Cert.TailLast.main_arg3) = m ((c.tc : Thread Cert.TailLast.nD Cert.TailLast.τ).loc Cert.TailLast.main_arg3)
      ∧ r.2.mem ((c.tc : Thread Cert.TailLast.nD Cert.TailLast.τ).loc Cert.TailLast.main_arg4) = m ((c.tc : Thread Cert.TailLast.nD Cert.TailLast.τ).loc Cert.TailLast.main_arg4)
      ∧ r.2.mem ((c.tc : Thread Cert.TailLast.nD Cert.TailLast.τ).loc Cert.TailLast.main_arg5) = m ((c.tc : Thread Cert.TailLast.nD Cert.TailLast.τ).loc Cert.TailLast.main_arg5)
      ∧ r.2.mem ((c.tc : Thread Cert.TailLast.nD Cert.TailLast.τ).loc Cert.TailLast.main_arg6) = m ((c.tc : Thread Cert.TailLast.nD Cert.TailLast.τ).loc Cert.TailLast.main_arg6))
      ∧ r.2.sem = fun _ => 0)

def quiescent_TailLastIdeal [hTailLastIdeal : Cert.TailLastIdeal.Facts] : Prop :=
  ∀ (m : (ℓ : Loc Cert.TailLastIdeal.nD Cert.TailLastIdeal.τ Cert.TailLastIdeal.sig) → Buf (Elt Ideal) ℓ) (g : Dev Cert.TailLastIdeal.nD → PrngReg), Pre_TailLastIdeal m →
    θ_run (Cert.TailLastIdeal.defs (F := Ideal)) (onTc (τ := Cert.TailLastIdeal.τ) (Cert.TailLastIdeal.main (F := Ideal))) ⟨m, fun _ => 0, g⟩ (fun r => (∀ c : Dev Cert.TailLastIdeal.nD,
      r.2.mem ((c.tc : Thread Cert.TailLastIdeal.nD Cert.TailLastIdeal.τ).loc Cert.TailLastIdeal.main_arg0) = m ((c.tc : Thread Cert.TailLastIdeal.nD Cert.TailLastIdeal.τ).loc Cert.TailLastIdeal.main_arg0)
      ∧ r.2.mem ((c.tc : Thread Cert.TailLastIdeal.nD Cert.TailLastIdeal.τ).loc Cert.TailLastIdeal.main_arg1) = m ((c.tc : Thread Cert.TailLastIdeal.nD Cert.TailLastIdeal.τ).loc Cert.TailLastIdeal.main_arg1)
      ∧ r.2.mem ((c.tc : Thread Cert.TailLastIdeal.nD Cert.TailLastIdeal.τ).loc Cert.TailLastIdeal.main_arg2) = m ((c.tc : Thread Cert.TailLastIdeal.nD Cert.TailLastIdeal.τ).loc Cert.TailLastIdeal.main_arg2)
      ∧ r.2.mem ((c.tc : Thread Cert.TailLastIdeal.nD Cert.TailLastIdeal.τ).loc Cert.TailLastIdeal.main_arg3) = m ((c.tc : Thread Cert.TailLastIdeal.nD Cert.TailLastIdeal.τ).loc Cert.TailLastIdeal.main_arg3)
      ∧ r.2.mem ((c.tc : Thread Cert.TailLastIdeal.nD Cert.TailLastIdeal.τ).loc Cert.TailLastIdeal.main_arg4) = m ((c.tc : Thread Cert.TailLastIdeal.nD Cert.TailLastIdeal.τ).loc Cert.TailLastIdeal.main_arg4)
      ∧ r.2.mem ((c.tc : Thread Cert.TailLastIdeal.nD Cert.TailLastIdeal.τ).loc Cert.TailLastIdeal.main_arg5) = m ((c.tc : Thread Cert.TailLastIdeal.nD Cert.TailLastIdeal.τ).loc Cert.TailLastIdeal.main_arg5)
      ∧ r.2.mem ((c.tc : Thread Cert.TailLastIdeal.nD Cert.TailLastIdeal.τ).loc Cert.TailLastIdeal.main_arg6) = m ((c.tc : Thread Cert.TailLastIdeal.nD Cert.TailLastIdeal.τ).loc Cert.TailLastIdeal.main_arg6))
      ∧ r.2.sem = fun _ => 0)

def quiescent_TailLastRefIdeal [hTailLastRefIdeal : Cert.TailLastRefIdeal.Facts] : Prop :=
  ∀ (m : (ℓ : Loc Cert.TailLastRefIdeal.nD Cert.TailLastRefIdeal.τ Cert.TailLastRefIdeal.sig) → Buf (Elt Ideal) ℓ) (g : Dev Cert.TailLastRefIdeal.nD → PrngReg), Pre_TailLastRefIdeal m →
    θ_run (Cert.TailLastRefIdeal.defs (F := Ideal)) (onTc (τ := Cert.TailLastRefIdeal.τ) (Cert.TailLastRefIdeal.main (F := Ideal))) ⟨m, fun _ => 0, g⟩ (fun r => (∀ c : Dev Cert.TailLastRefIdeal.nD,
      r.2.mem ((c.tc : Thread Cert.TailLastRefIdeal.nD Cert.TailLastRefIdeal.τ).loc Cert.TailLastRefIdeal.main_arg0) = m ((c.tc : Thread Cert.TailLastRefIdeal.nD Cert.TailLastRefIdeal.τ).loc Cert.TailLastRefIdeal.main_arg0)
      ∧ r.2.mem ((c.tc : Thread Cert.TailLastRefIdeal.nD Cert.TailLastRefIdeal.τ).loc Cert.TailLastRefIdeal.main_arg1) = m ((c.tc : Thread Cert.TailLastRefIdeal.nD Cert.TailLastRefIdeal.τ).loc Cert.TailLastRefIdeal.main_arg1)
      ∧ r.2.mem ((c.tc : Thread Cert.TailLastRefIdeal.nD Cert.TailLastRefIdeal.τ).loc Cert.TailLastRefIdeal.main_arg2) = m ((c.tc : Thread Cert.TailLastRefIdeal.nD Cert.TailLastRefIdeal.τ).loc Cert.TailLastRefIdeal.main_arg2)
      ∧ r.2.mem ((c.tc : Thread Cert.TailLastRefIdeal.nD Cert.TailLastRefIdeal.τ).loc Cert.TailLastRefIdeal.main_arg3) = m ((c.tc : Thread Cert.TailLastRefIdeal.nD Cert.TailLastRefIdeal.τ).loc Cert.TailLastRefIdeal.main_arg3)
      ∧ r.2.mem ((c.tc : Thread Cert.TailLastRefIdeal.nD Cert.TailLastRefIdeal.τ).loc Cert.TailLastRefIdeal.main_arg4) = m ((c.tc : Thread Cert.TailLastRefIdeal.nD Cert.TailLastRefIdeal.τ).loc Cert.TailLastRefIdeal.main_arg4)
      ∧ r.2.mem ((c.tc : Thread Cert.TailLastRefIdeal.nD Cert.TailLastRefIdeal.τ).loc Cert.TailLastRefIdeal.main_arg5) = m ((c.tc : Thread Cert.TailLastRefIdeal.nD Cert.TailLastRefIdeal.τ).loc Cert.TailLastRefIdeal.main_arg5)
      ∧ r.2.mem ((c.tc : Thread Cert.TailLastRefIdeal.nD Cert.TailLastRefIdeal.τ).loc Cert.TailLastRefIdeal.main_arg6) = m ((c.tc : Thread Cert.TailLastRefIdeal.nD Cert.TailLastRefIdeal.τ).loc Cert.TailLastRefIdeal.main_arg6))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0)
      ∧ r.2.mem ((c.tc : Thread Cert.AttnC.nD Cert.AttnC.τ).loc Cert.AttnC.main_arg1) = m ((c.tc : Thread Cert.AttnC.nD Cert.AttnC.τ).loc Cert.AttnC.main_arg1)
      ∧ r.2.mem ((c.tc : Thread Cert.AttnC.nD Cert.AttnC.τ).loc Cert.AttnC.main_arg2) = m ((c.tc : Thread Cert.AttnC.nD Cert.AttnC.τ).loc Cert.AttnC.main_arg2))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ r.2.sem = fun _ => 0)

def quiescent_AttnCIdeal_pre_finite_qk [hAttnCIdeal : Cert.AttnCIdeal.Facts] [hPre_finite_qk : Cert.Pre_finite_qk.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_qk m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
      ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
      ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2))
      ∧ r.2.sem = fun _ => 0)

def quiescent_AttnCRefIdeal_pre_finite_qk [hAttnCRefIdeal : Cert.AttnCRefIdeal.Facts] [hPre_finite_qk : Cert.Pre_finite_qk.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_qk m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0)
      ∧ r.2.mem ((c.tc : Thread Cert.AttnCRefIdeal.nD Cert.AttnCRefIdeal.τ).loc Cert.AttnCRefIdeal.main_arg1) = m ((c.tc : Thread Cert.AttnCRefIdeal.nD Cert.AttnCRefIdeal.τ).loc Cert.AttnCRefIdeal.main_arg1)
      ∧ r.2.mem ((c.tc : Thread Cert.AttnCRefIdeal.nD Cert.AttnCRefIdeal.τ).loc Cert.AttnCRefIdeal.main_arg2) = m ((c.tc : Thread Cert.AttnCRefIdeal.nD Cert.AttnCRefIdeal.τ).loc Cert.AttnCRefIdeal.main_arg2))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnAIdeal_pre_finite_a [hAttnAIdeal : Cert.AttnAIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_AttnARefIdeal_pre_finite_a [hAttnARefIdeal : Cert.AttnARefIdeal.Facts] [hPre_finite_a : Cert.Pre_finite_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBIdeal_pre_finite_b [hAttnBIdeal : Cert.AttnBIdeal.Facts] [hPre_finite_b : Cert.Pre_finite_b.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_b m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def quiescent_AttnBRefIdeal_pre_finite_b [hAttnBRefIdeal : Cert.AttnBRefIdeal.Facts] [hPre_finite_b : Cert.Pre_finite_b.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_b m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjA_InProjAIdeal : Prop :=
  True

def algebraic_InProjAIdeal_InProjARefIdeal [hInProjAIdeal : Cert.InProjAIdeal.Facts] [hInProjARefIdeal : Cert.InProjARefIdeal.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)) →
    ∃ (v0 : (c : Dev Cert.InProjAIdeal.nD) → Buf (Elt Ideal) ((c.tc : Thread Cert.InProjAIdeal.nD Cert.InProjAIdeal.τ).loc Cert.InProjAIdeal.main_v4)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          r.2.mem ((c.tc : Thread Cert.InProjAIdeal.nD Cert.InProjAIdeal.τ).loc Cert.InProjAIdeal.main_v4) = v0 c
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          r.2.mem ((c.tc : Thread Cert.InProjARefIdeal.nD Cert.InProjARefIdeal.τ).loc Cert.InProjARefIdeal.main_v7) = v0 c
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v5_0) = v0 c
          ∧ r.2.mem ((c.tc : Thread Cert.TailIdeal.nD Cert.TailIdeal.τ).loc Cert.TailIdeal.main_v5_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v25) = v0 c
          ∧ r.2.mem ((c.tc : Thread Cert.TailRefIdeal.nD Cert.TailRefIdeal.τ).loc Cert.TailRefIdeal.main_v39) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_TailLast_TailLastIdeal : Prop :=
  True

def algebraic_TailLastIdeal_TailLastRefIdeal [hTailLastIdeal : Cert.TailLastIdeal.Facts] [hTailLastRefIdeal : Cert.TailLastRefIdeal.Facts] : Prop :=
  ∀ (m : (ℓ : Loc Cert.TailLastIdeal.nD Cert.TailLastIdeal.τ Cert.TailLastIdeal.sig) → Buf (Elt Ideal) ℓ) (g : Dev Cert.TailLastIdeal.nD → PrngReg)
    (m' : (ℓ : Loc Cert.TailLastRefIdeal.nD Cert.TailLastRefIdeal.τ Cert.TailLastRefIdeal.sig) → Buf (Elt Ideal) ℓ) (g' : Dev Cert.TailLastRefIdeal.nD → PrngReg), Pre_TailLastIdeal m →
    (∀ c : Dev Cert.TailLastIdeal.nD,
      m' ((c.tc : Thread Cert.TailLastRefIdeal.nD Cert.TailLastRefIdeal.τ).loc Cert.TailLastRefIdeal.main_arg0) = m ((c.tc : Thread Cert.TailLastIdeal.nD Cert.TailLastIdeal.τ).loc Cert.TailLastIdeal.main_arg0)
      ∧ m' ((c.tc : Thread Cert.TailLastRefIdeal.nD Cert.TailLastRefIdeal.τ).loc Cert.TailLastRefIdeal.main_arg1) = m ((c.tc : Thread Cert.TailLastIdeal.nD Cert.TailLastIdeal.τ).loc Cert.TailLastIdeal.main_arg1)
      ∧ m' ((c.tc : Thread Cert.TailLastRefIdeal.nD Cert.TailLastRefIdeal.τ).loc Cert.TailLastRefIdeal.main_arg2) = m ((c.tc : Thread Cert.TailLastIdeal.nD Cert.TailLastIdeal.τ).loc Cert.TailLastIdeal.main_arg2)
      ∧ m' ((c.tc : Thread Cert.TailLastRefIdeal.nD Cert.TailLastRefIdeal.τ).loc Cert.TailLastRefIdeal.main_arg3) = m ((c.tc : Thread Cert.TailLastIdeal.nD Cert.TailLastIdeal.τ).loc Cert.TailLastIdeal.main_arg3)
      ∧ m' ((c.tc : Thread Cert.TailLastRefIdeal.nD Cert.TailLastRefIdeal.τ).loc Cert.TailLastRefIdeal.main_arg4) = m ((c.tc : Thread Cert.TailLastIdeal.nD Cert.TailLastIdeal.τ).loc Cert.TailLastIdeal.main_arg4)
      ∧ m' ((c.tc : Thread Cert.TailLastRefIdeal.nD Cert.TailLastRefIdeal.τ).loc Cert.TailLastRefIdeal.main_arg5) = m ((c.tc : Thread Cert.TailLastIdeal.nD Cert.TailLastIdeal.τ).loc Cert.TailLastIdeal.main_arg5)
      ∧ m' ((c.tc : Thread Cert.TailLastRefIdeal.nD Cert.TailLastRefIdeal.τ).loc Cert.TailLastRefIdeal.main_arg6) = m ((c.tc : Thread Cert.TailLastIdeal.nD Cert.TailLastIdeal.τ).loc Cert.TailLastIdeal.main_arg6)) →
    ∃ (v0 : (c : Dev Cert.TailLastIdeal.nD) → Buf (Elt Ideal) ((c.tc : Thread Cert.TailLastIdeal.nD Cert.TailLastIdeal.τ).loc Cert.TailLastIdeal.main_v4)),
      θ_run (Cert.TailLastIdeal.defs (F := Ideal)) (onTc (τ := Cert.TailLastIdeal.τ) (Cert.TailLastIdeal.main (F := Ideal))) ⟨m, fun _ => 0, g⟩ (fun r => ∀ c : Dev Cert.TailLastIdeal.nD,
          r.2.mem ((c.tc : Thread Cert.TailLastIdeal.nD Cert.TailLastIdeal.τ).loc Cert.TailLastIdeal.main_v4) = v0 c
          ∧ r.2.mem ((c.tc : Thread Cert.TailLastIdeal.nD Cert.TailLastIdeal.τ).loc Cert.TailLastIdeal.main_arg0) = m ((c.tc : Thread Cert.TailLastIdeal.nD Cert.TailLastIdeal.τ).loc Cert.TailLastIdeal.main_arg0)
          ∧ r.2.mem ((c.tc : Thread Cert.TailLastIdeal.nD Cert.TailLastIdeal.τ).loc Cert.TailLastIdeal.main_arg1) = m ((c.tc : Thread Cert.TailLastIdeal.nD Cert.TailLastIdeal.τ).loc Cert.TailLastIdeal.main_arg1)
          ∧ r.2.mem ((c.tc : Thread Cert.TailLastIdeal.nD Cert.TailLastIdeal.τ).loc Cert.TailLastIdeal.main_arg2) = m ((c.tc : Thread Cert.TailLastIdeal.nD Cert.TailLastIdeal.τ).loc Cert.TailLastIdeal.main_arg2)
          ∧ r.2.mem ((c.tc : Thread Cert.TailLastIdeal.nD Cert.TailLastIdeal.τ).loc Cert.TailLastIdeal.main_arg3) = m ((c.tc : Thread Cert.TailLastIdeal.nD Cert.TailLastIdeal.τ).loc Cert.TailLastIdeal.main_arg3)
          ∧ r.2.mem ((c.tc : Thread Cert.TailLastIdeal.nD Cert.TailLastIdeal.τ).loc Cert.TailLastIdeal.main_arg4) = m ((c.tc : Thread Cert.TailLastIdeal.nD Cert.TailLastIdeal.τ).loc Cert.TailLastIdeal.main_arg4)
          ∧ r.2.mem ((c.tc : Thread Cert.TailLastIdeal.nD Cert.TailLastIdeal.τ).loc Cert.TailLastIdeal.main_arg5) = m ((c.tc : Thread Cert.TailLastIdeal.nD Cert.TailLastIdeal.τ).loc Cert.TailLastIdeal.main_arg5)
          ∧ r.2.mem ((c.tc : Thread Cert.TailLastIdeal.nD Cert.TailLastIdeal.τ).loc Cert.TailLastIdeal.main_arg6) = m ((c.tc : Thread Cert.TailLastIdeal.nD Cert.TailLastIdeal.τ).loc Cert.TailLastIdeal.main_arg6))
      ∧ θ_run (Cert.TailLastRefIdeal.defs (F := Ideal)) (onTc (τ := Cert.TailLastRefIdeal.τ) (Cert.TailLastRefIdeal.main (F := Ideal))) ⟨m', fun _ => 0, g'⟩ (fun r => ∀ c : Dev Cert.TailLastRefIdeal.nD,
          r.2.mem ((c.tc : Thread Cert.TailLastRefIdeal.nD Cert.TailLastRefIdeal.τ).loc Cert.TailLastRefIdeal.main_v25) = v0 c
          ∧ r.2.mem ((c.tc : Thread Cert.TailLastRefIdeal.nD Cert.TailLastRefIdeal.τ).loc Cert.TailLastRefIdeal.main_arg0) = m' ((c.tc : Thread Cert.TailLastRefIdeal.nD Cert.TailLastRefIdeal.τ).loc Cert.TailLastRefIdeal.main_arg0)
          ∧ r.2.mem ((c.tc : Thread Cert.TailLastRefIdeal.nD Cert.TailLastRefIdeal.τ).loc Cert.TailLastRefIdeal.main_arg1) = m' ((c.tc : Thread Cert.TailLastRefIdeal.nD Cert.TailLastRefIdeal.τ).loc Cert.TailLastRefIdeal.main_arg1)
          ∧ r.2.mem ((c.tc : Thread Cert.TailLastRefIdeal.nD Cert.TailLastRefIdeal.τ).loc Cert.TailLastRefIdeal.main_arg2) = m' ((c.tc : Thread Cert.TailLastRefIdeal.nD Cert.TailLastRefIdeal.τ).loc Cert.TailLastRefIdeal.main_arg2)
          ∧ r.2.mem ((c.tc : Thread Cert.TailLastRefIdeal.nD Cert.TailLastRefIdeal.τ).loc Cert.TailLastRefIdeal.main_arg3) = m' ((c.tc : Thread Cert.TailLastRefIdeal.nD Cert.TailLastRefIdeal.τ).loc Cert.TailLastRefIdeal.main_arg3)
          ∧ r.2.mem ((c.tc : Thread Cert.TailLastRefIdeal.nD Cert.TailLastRefIdeal.τ).loc Cert.TailLastRefIdeal.main_arg4) = m' ((c.tc : Thread Cert.TailLastRefIdeal.nD Cert.TailLastRefIdeal.τ).loc Cert.TailLastRefIdeal.main_arg4)
          ∧ r.2.mem ((c.tc : Thread Cert.TailLastRefIdeal.nD Cert.TailLastRefIdeal.τ).loc Cert.TailLastRefIdeal.main_arg5) = m' ((c.tc : Thread Cert.TailLastRefIdeal.nD Cert.TailLastRefIdeal.τ).loc Cert.TailLastRefIdeal.main_arg5)
          ∧ r.2.mem ((c.tc : Thread Cert.TailLastRefIdeal.nD Cert.TailLastRefIdeal.τ).loc Cert.TailLastRefIdeal.main_arg6) = m' ((c.tc : Thread Cert.TailLastRefIdeal.nD Cert.TailLastRefIdeal.τ).loc Cert.TailLastRefIdeal.main_arg6))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v13) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_AttnC_AttnCIdeal : Prop :=
  True

def algebraic_AttnCIdeal_AttnCRefIdeal_pre_finite_qk [hAttnCIdeal : Cert.AttnCIdeal.Facts] [hAttnCRefIdeal : Cert.AttnCRefIdeal.Facts] [hPre_finite_qk : Cert.Pre_finite_qk.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_qk m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)
      ∧ m' ((c.tc : Thread Cert.AttnCRefIdeal.nD Cert.AttnCRefIdeal.τ).loc Cert.AttnCRefIdeal.main_arg1) = m ((c.tc : Thread Cert.AttnCIdeal.nD Cert.AttnCIdeal.τ).loc Cert.AttnCIdeal.main_arg1)
      ∧ m' ((c.tc : Thread Cert.AttnCRefIdeal.nD Cert.AttnCRefIdeal.τ).loc Cert.AttnCRefIdeal.main_arg2) = m ((c.tc : Thread Cert.AttnCIdeal.nD Cert.AttnCIdeal.τ).loc Cert.AttnCIdeal.main_arg2)) →
    ∃ (v0 : (c : Dev Cert.AttnCIdeal.nD) → Buf (Elt Ideal) ((c.tc : Thread Cert.AttnCIdeal.nD Cert.AttnCIdeal.τ).loc Cert.AttnCIdeal.main_v1)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v1) = v0 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0)
          ∧ r.2.mem ((c.tc : Thread Cert.AttnCIdeal.nD Cert.AttnCIdeal.τ).loc Cert.AttnCIdeal.main_arg1) = m ((c.tc : Thread Cert.AttnCIdeal.nD Cert.AttnCIdeal.τ).loc Cert.AttnCIdeal.main_arg1)
          ∧ r.2.mem ((c.tc : Thread Cert.AttnCIdeal.nD Cert.AttnCIdeal.τ).loc Cert.AttnCIdeal.main_arg2) = m ((c.tc : Thread Cert.AttnCIdeal.nD Cert.AttnCIdeal.τ).loc Cert.AttnCIdeal.main_arg2))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v92) = v0 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0)
          ∧ r.2.mem ((c.tc : Thread Cert.AttnCRefIdeal.nD Cert.AttnCRefIdeal.τ).loc Cert.AttnCRefIdeal.main_arg1) = m' ((c.tc : Thread Cert.AttnCRefIdeal.nD Cert.AttnCRefIdeal.τ).loc Cert.AttnCRefIdeal.main_arg1)
          ∧ r.2.mem ((c.tc : Thread Cert.AttnCRefIdeal.nD Cert.AttnCRefIdeal.τ).loc Cert.AttnCRefIdeal.main_arg2) = m' ((c.tc : Thread Cert.AttnCRefIdeal.nD Cert.AttnCRefIdeal.τ).loc Cert.AttnCRefIdeal.main_arg2))

def preserves_AttnA_AttnAIdeal : Prop :=
  IdealRules.named_const.Statement Cert.AttnAIdeal.κ "mask" .f32 0xF149F2CA#32 ⊥

def algebraic_AttnAIdeal_AttnARefIdeal_pre_finite_a [hAttnAIdeal : Cert.AttnAIdeal.Facts] [hAttnARefIdeal : Cert.AttnARefIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)) →
    ∃ (v0 : (c : Dev Cert.AttnAIdeal.nD) → Buf (Elt Ideal) ((c.tc : Thread Cert.AttnAIdeal.nD Cert.AttnAIdeal.τ).loc Cert.AttnAIdeal.main_v0)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v0) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v76) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1))

def preserves_AttnB_AttnBIdeal : Prop :=
  IdealRules.named_const.Statement Cert.AttnBIdeal.κ "mask" .f32 0xF149F2CA#32 ⊥

def algebraic_AttnBIdeal_AttnBRefIdeal_pre_finite_b [hAttnBIdeal : Cert.AttnBIdeal.Facts] [hAttnBRefIdeal : Cert.AttnBRefIdeal.Facts] [hPre_finite_b : Cert.Pre_finite_b.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_b m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)) →
    ∃ (v0 : (c : Dev Cert.AttnBIdeal.nD) → Buf (Elt Ideal) ((c.tc : Thread Cert.AttnBIdeal.nD Cert.AttnBIdeal.τ).loc Cert.AttnBIdeal.main_v2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v2) = v0 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v106) = v0 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1))

def Claim : Prop :=
  ∃ (hInProj : Cert.InProj.Facts) (hInProjIdeal : Cert.InProjIdeal.Facts) (hInProjRefIdeal : Cert.InProjRefIdeal.Facts) (hInProjA : Cert.InProjA.Facts) (hInProjAIdeal : Cert.InProjAIdeal.Facts) (hInProjARefIdeal : Cert.InProjARefIdeal.Facts) (hTail : Cert.Tail.Facts) (hTailIdeal : Cert.TailIdeal.Facts) (hTailRefIdeal : Cert.TailRefIdeal.Facts) (hTailLast : Cert.TailLast.Facts) (hTailLastIdeal : Cert.TailLastIdeal.Facts) (hTailLastRefIdeal : Cert.TailLastRefIdeal.Facts) (hPrenorm : Cert.Prenorm.Facts) (hPrenormIdeal : Cert.PrenormIdeal.Facts) (hPrenormRefIdeal : Cert.PrenormRefIdeal.Facts) (hAttnC : Cert.AttnC.Facts) (hAttnCIdeal : Cert.AttnCIdeal.Facts) (hAttnCRefIdeal : Cert.AttnCRefIdeal.Facts) (hAttnA : Cert.AttnA.Facts) (hAttnAIdeal : Cert.AttnAIdeal.Facts) (hAttnARefIdeal : Cert.AttnARefIdeal.Facts) (hAttnB : Cert.AttnB.Facts) (hAttnBIdeal : Cert.AttnBIdeal.Facts) (hAttnBRefIdeal : Cert.AttnBRefIdeal.Facts) (hPre_finite_qk : Cert.Pre_finite_qk.Facts) (hPre_finite_a : Cert.Pre_finite_a.Facts) (hPre_finite_b : Cert.Pre_finite_b.Facts),
    quiescent_InProj (hInProj := hInProj)
    ∧ quiescent_InProjIdeal (hInProjIdeal := hInProjIdeal)
    ∧ quiescent_InProjRefIdeal (hInProjRefIdeal := hInProjRefIdeal)
    ∧ quiescent_InProjA (hInProjA := hInProjA)
    ∧ quiescent_InProjAIdeal (hInProjAIdeal := hInProjAIdeal)
    ∧ quiescent_InProjARefIdeal (hInProjARefIdeal := hInProjARefIdeal)
    ∧ quiescent_Tail (hTail := hTail)
    ∧ quiescent_TailIdeal (hTailIdeal := hTailIdeal)
    ∧ quiescent_TailRefIdeal (hTailRefIdeal := hTailRefIdeal)
    ∧ quiescent_TailLast (hTailLast := hTailLast)
    ∧ quiescent_TailLastIdeal (hTailLastIdeal := hTailLastIdeal)
    ∧ quiescent_TailLastRefIdeal (hTailLastRefIdeal := hTailLastRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_AttnC (hAttnC := hAttnC)
    ∧ quiescent_AttnCIdeal (hAttnCIdeal := hAttnCIdeal)
    ∧ quiescent_AttnCIdeal_pre_finite_qk (hAttnCIdeal := hAttnCIdeal) (hPre_finite_qk := hPre_finite_qk)
    ∧ quiescent_AttnCRefIdeal (hAttnCRefIdeal := hAttnCRefIdeal)
    ∧ quiescent_AttnCRefIdeal_pre_finite_qk (hAttnCRefIdeal := hAttnCRefIdeal) (hPre_finite_qk := hPre_finite_qk)
    ∧ quiescent_AttnA (hAttnA := hAttnA)
    ∧ quiescent_AttnAIdeal (hAttnAIdeal := hAttnAIdeal)
    ∧ quiescent_AttnAIdeal_pre_finite_a (hAttnAIdeal := hAttnAIdeal) (hPre_finite_a := hPre_finite_a)
    ∧ quiescent_AttnARefIdeal (hAttnARefIdeal := hAttnARefIdeal)
    ∧ quiescent_AttnARefIdeal_pre_finite_a (hAttnARefIdeal := hAttnARefIdeal) (hPre_finite_a := hPre_finite_a)
    ∧ quiescent_AttnB (hAttnB := hAttnB)
    ∧ quiescent_AttnBIdeal (hAttnBIdeal := hAttnBIdeal)
    ∧ quiescent_AttnBIdeal_pre_finite_b (hAttnBIdeal := hAttnBIdeal) (hPre_finite_b := hPre_finite_b)
    ∧ quiescent_AttnBRefIdeal (hAttnBRefIdeal := hAttnBRefIdeal)
    ∧ quiescent_AttnBRefIdeal_pre_finite_b (hAttnBRefIdeal := hAttnBRefIdeal) (hPre_finite_b := hPre_finite_b)
    ∧ preserves_InProj_InProjIdeal
    ∧ algebraic_InProjIdeal_InProjRefIdeal (hInProjIdeal := hInProjIdeal) (hInProjRefIdeal := hInProjRefIdeal)
    ∧ preserves_InProjA_InProjAIdeal
    ∧ algebraic_InProjAIdeal_InProjARefIdeal (hInProjAIdeal := hInProjAIdeal) (hInProjARefIdeal := hInProjARefIdeal)
    ∧ preserves_Tail_TailIdeal
    ∧ algebraic_TailIdeal_TailRefIdeal (hTailIdeal := hTailIdeal) (hTailRefIdeal := hTailRefIdeal)
    ∧ preserves_TailLast_TailLastIdeal
    ∧ algebraic_TailLastIdeal_TailLastRefIdeal (hTailLastIdeal := hTailLastIdeal) (hTailLastRefIdeal := hTailLastRefIdeal)
    ∧ preserves_Prenorm_PrenormIdeal
    ∧ algebraic_PrenormIdeal_PrenormRefIdeal (hPrenormIdeal := hPrenormIdeal) (hPrenormRefIdeal := hPrenormRefIdeal)
    ∧ preserves_AttnC_AttnCIdeal
    ∧ algebraic_AttnCIdeal_AttnCRefIdeal_pre_finite_qk (hAttnCIdeal := hAttnCIdeal) (hAttnCRefIdeal := hAttnCRefIdeal) (hPre_finite_qk := hPre_finite_qk)
    ∧ preserves_AttnA_AttnAIdeal
    ∧ algebraic_AttnAIdeal_AttnARefIdeal_pre_finite_a (hAttnAIdeal := hAttnAIdeal) (hAttnARefIdeal := hAttnARefIdeal) (hPre_finite_a := hPre_finite_a)
    ∧ preserves_AttnB_AttnBIdeal
    ∧ algebraic_AttnBIdeal_AttnBRefIdeal_pre_finite_b (hAttnBIdeal := hAttnBIdeal) (hAttnBRefIdeal := hAttnBRefIdeal) (hPre_finite_b := hPre_finite_b)
-- ==== Pre_finite_a.lean ====
abbrev S8192x5120 : Shape := ⟨2, ![8192, 5120]⟩
abbrev S16 : Shape := ⟨1, ![16]⟩
abbrev S8192x2560 : Shape := ⟨2, ![8192, 2560]⟩
abbrev S_ : Shape := ⟨0, ![]⟩
abbrev S20971520 : Shape := ⟨1, ![20971520]⟩
abbrev S20971536 : Shape := ⟨1, ![20971536]⟩

class Facts : Prop where
  slices_S8192x5120_S8192x2560_0_2048 : S8192x5120.Slices ![0, 2048] S8192x2560
  bitsLt_bf16_f32 : FTy.bits .bf16 < FTy.bits .f32
  bcast_S_S8192x2560 : S_.BroadcastsInDim S8192x2560 (![] : Fin 0 → Fin S8192x2560.rank)
  shapeCasts_S8192x2560_S20971520 : S8192x2560.ShapeCasts S20971520
  bcast_S_S16 : S_.BroadcastsInDim S16 (![] : Fin 0 → Fin S16.rank)
  concatenates_S20971520_S16_S20971536_d0 : Shape.Concatenates [S20971520, S16] S20971536 0

variable [Facts]

def fn {F : FTy → Type} [FloatOps F] (main_arg0 : FVec F S8192x5120 .bf16) (main_arg1 : FVec F S16 .f32) : IVec S20971536 1 :=
  let main_v0 : FVec F S8192x2560 .bf16 := (extractStridedSlice S8192x2560 ![0, 2048] · slices_S8192x5120_S8192x2560_0_2048) main_arg0
  let main_v1 : FVec F S8192x2560 .f32 := (extf .f32 · bitsLt_bf16_f32) main_v0
  let main_v2 : FVec F S8192x2560 .f32 := Host.absf main_v1
  let main_cst : FVec F S_ .f32 := constant S_ .f32 0x7F800000#32
  let main_v3 : FVec F S8192x2560 .f32 := broadcastInDim S8192x2560 ![] bcast_S_S8192x2560 main_cst
  let main_v4 : IVec S8192x2560 1 := cmpf .olt main_v2 main_v3
  let main_v5 : IVec S20971520 1 := shapeCast S20971520 main_v4 shapeCasts_S8192x2560_S20971520
  let main_v6 : FVec F S16 .f32 := Host.absf main_arg1
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_v9 : IVec S20971536 1 := (fun a b => concatenate S20971536 0 [⟨S20971520, a⟩, ⟨S16, b⟩] concatenates_S20971520_S16_S20971536_d0) main_v5 main_v8
  main_v9
-- ==== Pre_finite_b.lean ====
abbrev S8192x8192 : Shape := ⟨2, ![8192, 8192]⟩
abbrev S16x15x31 : Shape := ⟨3, ![16, 15, 31]⟩
abbrev S8192x4096 : Shape := ⟨2, ![8192, 4096]⟩
abbrev S_ : Shape := ⟨0, ![]⟩
abbrev S33554432 : Shape := ⟨1, ![33554432]⟩
abbrev S7440 : Shape := ⟨1, ![7440]⟩
abbrev S33561872 : Shape := ⟨1, ![33561872]⟩

class Facts : Prop where
  slices_S8192x8192_S8192x4096_0_0 : S8192x8192.Slices ![0, 0] S8192x4096
  bitsLt_bf16_f32 : FTy.bits .bf16 < FTy.bits .f32
  bcast_S_S8192x4096 : S_.BroadcastsInDim S8192x4096 (![] : Fin 0 → Fin S8192x4096.rank)
  shapeCasts_S8192x4096_S33554432 : S8192x4096.ShapeCasts S33554432
  bcast_S_S16x15x31 : S_.BroadcastsInDim S16x15x31 (![] : Fin 0 → Fin S16x15x31.rank)
  shapeCasts_S16x15x31_S7440 : S16x15x31.ShapeCasts S7440
  concatenates_S33554432_S7440_S33561872_d0 : Shape.Concatenates [S33554432, S7440] S33561872 0

variable [Facts]

def fn {F : FTy → Type} [FloatOps F] (main_arg0 : FVec F S8192x8192 .bf16) (main_arg1 : FVec F S16x15x31 .f32) : IVec S33561872 1 :=
  let main_v0 : FVec F S8192x4096 .bf16 := (extractStridedSlice S8192x4096 ![0, 0] · slices_S8192x8192_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : IVec S33554432 1 := shapeCast S33554432 main_v4 shapeCasts_S8192x4096_S33554432
  let main_v6 : FVec F S16x15x31 .f32 := Host.absf main_arg1
  let main_cst_0 : FVec F S_ .f32 := constant S_ .f32 0x7F800000#32
  let main_v7 : FVec F S16x15x31 .f32 := broadcastInDim S16x15x31 ![] bcast_S_S16x15x31 main_cst_0
  let main_v8 : IVec S16x15x31 1 := cmpf .olt main_v6 main_v7
  let main_v9 : IVec S7440 1 := shapeCast S7440 main_v8 shapeCasts_S16x15x31_S7440
  let main_v10 : IVec S33561872 1 := (fun a b => concatenate S33561872 0 [⟨S33554432, a⟩, ⟨S7440, b⟩] concatenates_S33554432_S7440_S33561872_d0) main_v5 main_v9
  main_v10
-- ==== Pre_finite_qk.lean ====
abbrev S8192x8192 : Shape := ⟨2, ![8192, 8192]⟩
abbrev S4x128 : Shape := ⟨2, ![4, 128]⟩
abbrev S256 : Shape := ⟨1, ![256]⟩
abbrev S8192x4096 : Shape := ⟨2, ![8192, 4096]⟩
abbrev S_ : Shape := ⟨0, ![]⟩

class Facts : Prop where
  slices_S8192x8192_S8192x4096_0_0 : S8192x8192.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x8192 .bf16) (main_arg1 : FVec F S4x128 .f32) (main_arg2 : FVec F S256 .f32) : IVec S8192x4096 1 :=
  let main_v0 : FVec F S8192x4096 .bf16 := (extractStridedSlice S8192x4096 ![0, 0] · slices_S8192x8192_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== InProj.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S2048x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjA.lean ====
abbrev S8192x2048 : Shape := ⟨2, ![8192, 2048]⟩
abbrev S2048x5120 : Shape := ⟨2, ![2048, 5120]⟩
abbrev S2048x2048 : Shape := ⟨2, ![2048, 2048]⟩
abbrev S2048x3072 : Shape := ⟨2, ![2048, 3072]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .f32⟩
  | .hbm, ⟨2, _⟩ => ⟨S2048x2048, .f32⟩
  | .hbm, ⟨3, _⟩ => ⟨S2048x3072, .f32⟩
  | .hbm, ⟨4, _⟩ => ⟨S2048x5120, .f32⟩
  | .hbm, ⟨5, _⟩ => ⟨S2048x5120, .bf16⟩
  | .hbm, ⟨6, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjARefIdeal.lean ====
abbrev S8192x2048 : Shape := ⟨2, ![8192, 2048]⟩
abbrev S2048x5120 : Shape := ⟨2, ![2048, 5120]⟩
abbrev S8192x5120 : Shape := ⟨2, ![8192, 5120]⟩
abbrev S8192x512 : Shape := ⟨2, ![8192, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5120, .f32⟩
  | .hbm, ⟨2, _⟩ => ⟨S8192x2048, .f32⟩
  | .hbm, ⟨3, _⟩ => ⟨S8192x5120, .f32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S8192x2048, .f32⟩
  | .hbm, ⟨8, _⟩ => ⟨S8192x5120, .f32⟩
  | .hbm, ⟨9, _⟩ => ⟨S8192x5120, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Tail.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S256x2048, .bf16⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== TailLast.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S2048x2048, .bf16⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TailLastRefIdeal.lean ====
abbrev S8192x2048 : Shape := ⟨2, ![8192, 2048]⟩
abbrev S8192x256 : Shape := ⟨2, ![8192, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Prenorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AttnC.lean ====
abbrev S8192x8192 : Shape := ⟨2, ![8192, 8192]⟩
abbrev S4x128 : Shape := ⟨2, ![4, 128]⟩
abbrev S256 : Shape := ⟨1, ![256]⟩
abbrev S8 : Shape := ⟨1, ![8]⟩
abbrev S1x256 : Shape := ⟨2, ![1, 256]⟩
abbrev S8192x2048 : Shape := ⟨2, ![8192, 2048]⟩
abbrev S256x256 : Shape := ⟨2, ![256, 256]⟩
abbrev S2048x256 : Shape := ⟨2, ![2048, 256]⟩
abbrev S1x128 : Shape := ⟨2, ![1, 128]⟩
abbrev S1 : Shape := ⟨1, ![1]⟩
abbrev S1x1 : Shape := ⟨2, ![1, 1]⟩
abbrev S256x2048 : Shape := ⟨2, ![256, 2048]⟩
abbrev S256x128 : Shape := ⟨2, ![256, 128]⟩
abbrev S2048x128 : Shape := ⟨2, ![2048, 128]⟩
abbrev S256x1 : Shape := ⟨2, ![256, 1]⟩

abbrev nBuf : Space → Nat
  | .hbm => 6
  | .vmem => 12
  | .smem => 1
  | _ => 0

abbrev bufTy : (tb : Table) → Fin (tcTables nBuf tb) → BufTy
  | .hbm, ⟨0, _⟩ => ⟨S8192x8192, .bf16⟩
  | .hbm, ⟨1, _⟩ => ⟨S4x128, .f32⟩
  | .hbm, ⟨2, _⟩ => ⟨S256, .f32⟩
  | .hbm, ⟨3, _⟩ => ⟨S8, .f32⟩
  | .hbm, ⟨4, _⟩ => ⟨S1x256, .f32⟩
  | .hbm, ⟨5, _⟩ => ⟨S8192x2048, .bf16⟩
  | .local _ .vmem, ⟨0, _⟩ => ⟨S4x128, .f32⟩
  | .local _ .vmem, ⟨1, _⟩ => ⟨S1x256, .f32⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .smem, ⟨0, _⟩ => ⟨S8, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 1 → Nat :=
  let arg1 : BitVec 32 := BitVec.ofNat 32 (i 1).val
  let v21 : Index := Scalar.indexCast arg1
  ![v21.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnCRefIdeal.lean ====
abbrev S8192x8192 : Shape := ⟨2, ![8192, 8192]⟩
abbrev S4x128 : Shape := ⟨2, ![4, 128]⟩
abbrev S256 : Shape := ⟨1, ![256]⟩
abbrev S4x2048x8192 : Shape := ⟨3, ![4, 2048, 8192]⟩
abbrev S4x2048x2048 : Shape := ⟨3, ![4, 2048, 2048]⟩
abbrev S1x128 : Shape := ⟨2, ![1, 128]⟩
abbrev S128 : Shape := ⟨1, ![128]⟩
abbrev S_ : Shape := ⟨0, ![]⟩
abbrev S4x2048x8x2x128 : Shape := ⟨5, ![4, 2048, 8, 2, 128]⟩
abbrev S4x2048x8x256 : Shape := ⟨4, ![4, 2048, 8, 256]⟩
abbrev S2048 : Shape := ⟨1, ![2048]⟩
abbrev S4x8x2x2048x2048 : Shape := ⟨5, ![4, 8, 2, 2048, 2048]⟩
abbrev S2048x1 : Shape := ⟨2, ![2048, 1]⟩
abbrev S1x2048 : Shape := ⟨2, ![1, 2048]⟩
abbrev S2048x2048 : Shape := ⟨2, ![2048, 2048]⟩
abbrev S1 : Shape := ⟨1, ![1]⟩
abbrev S8 : Shape := ⟨1, ![8]⟩
abbrev S8x1x1x1 : Shape := ⟨4, ![8, 1, 1, 1]⟩
abbrev S1x1x2048x2048 : Shape := ⟨4, ![1, 1, 2048, 2048]⟩
abbrev S8x1x2048x2048 : Shape := ⟨4, ![8, 1, 2048, 2048]⟩
abbrev S1x8x1x2048x2048 : Shape := ⟨5, ![1, 8, 1, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x256x2048 : Shape := ⟨4, ![4, 8, 256, 2048]⟩
abbrev S4x2048x8 : Shape := ⟨3, ![4, 2048, 8]⟩
abbrev S4x2048x8x1 : Shape := ⟨4, ![4, 2048, 8, 1]⟩
abbrev S1x1x1x256 : Shape := ⟨4, ![1, 1, 1, 256]⟩
abbrev S8192x2048 : Shape := ⟨2, ![8192, 2048]⟩

abbrev nBuf : Space → Nat
  | .hbm => 123
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x128, .f32⟩
  | .hbm, ⟨2, _⟩ => ⟨S256, .f32⟩
  | .hbm, ⟨3, _⟩ => ⟨S8192x8192, .f32⟩
  | .hbm, ⟨4, _⟩ => ⟨S4x2048x8192, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x2048x8x2x128, .f32⟩
  | .hbm, ⟨29, _⟩ => ⟨S4x2048x8x2x128, .f32⟩
  | .hbm, ⟨30, _⟩ => ⟨S4x2048x8x256, .f32⟩
  | .hbm, ⟨31, _⟩ => ⟨S2048, .i32⟩
  | .hbm, ⟨32, _⟩ => ⟨S4x8x2x2048x2048, .f32⟩
  | .hbm, ⟨33, _⟩ => ⟨S_, .f32⟩
  | .hbm, ⟨34, _⟩ => ⟨S4x8x2x2048x2048, .f32⟩
  | .hbm, ⟨35, _⟩ => ⟨S4x8x2x2048x2048, .f32⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S8, .f32⟩
  | .hbm, ⟨60, _⟩ => ⟨S8x1x1x1, .f32⟩
  | .hbm, ⟨61, _⟩ => ⟨S1x1x2048x2048, .f32⟩
  | .hbm, ⟨62, _⟩ => ⟨S8x1x2048x2048, .f32⟩
  | .hbm, ⟨63, _⟩ => ⟨S8x1x2048x2048, .f32⟩
  | .hbm, ⟨64, _⟩ => ⟨S8x1x2048x2048, .f32⟩
  | .hbm, ⟨65, _⟩ => ⟨S1x8x1x2048x2048, .f32⟩
  | .hbm, ⟨66, _⟩ => ⟨S4x8x2x2048x2048, .f32⟩
  | .hbm, ⟨67, _⟩ => ⟨S4x8x2x2048x2048, .f32⟩
  | .hbm, ⟨68, _⟩ => ⟨S_, .f32⟩
  | .hbm, ⟨69, _⟩ => ⟨S4x8x2x2048, .f32⟩
  | .hbm, ⟨70, _⟩ => ⟨S_, .f32⟩
  | .hbm, ⟨71, _⟩ => ⟨S4x8x2x2048, .f32⟩
  | .hbm, ⟨72, _⟩ => ⟨S4x8x2x2048, .f32⟩
  | .hbm, ⟨73, _⟩ => ⟨S4x8x2x2048x1, .f32⟩
  | .hbm, ⟨74, _⟩ => ⟨S4x8x2x2048x2048, .f32⟩
  | .hbm, ⟨75, _⟩ => ⟨S4x8x2x2048x2048, .f32⟩
  | .hbm, ⟨76, _⟩ => ⟨S4x8x2x2048x2048, .f32⟩
  | .hbm, ⟨77, _⟩ => ⟨S_, .f32⟩
  | .hbm, ⟨78, _⟩ => ⟨S4x8x2x2048, .f32⟩
  | .hbm, ⟨79, _⟩ => ⟨S4x8x2x2048x1, .f32⟩
  | .hbm, ⟨80, _⟩ => ⟨S4x8x2x2048x2048, .f32⟩
  | .hbm, ⟨81, _⟩ => ⟨S4x8x2x2048x2048, .f32⟩
  | .hbm, ⟨82, _⟩ => ⟨S4x8x1x2048x2048, .f32⟩
  | .hbm, ⟨83, _⟩ => ⟨S4x8x2048x2048, .f32⟩
  | .hbm, ⟨84, _⟩ => ⟨S4x8x1x2048x2048, .f32⟩
  | .hbm, ⟨85, _⟩ => ⟨S4x8x2048x2048, .f32⟩
  | .hbm, ⟨86, _⟩ => ⟨S4x8x2048x2048, .f32⟩
  | .hbm, ⟨87, _⟩ => ⟨S4x8x2048x2048, .f32⟩
  | .hbm, ⟨88, _⟩ => ⟨S4x8x2048x2048, .f32⟩
  | .hbm, ⟨89, _⟩ => ⟨S4x8x256x2048, .f32⟩
  | .hbm, ⟨90, _⟩ => ⟨S4x2048x8x256, .f32⟩
  | .hbm, ⟨91, _⟩ => ⟨S4x2048x8x256, .f32⟩
  | .hbm, ⟨92, _⟩ => ⟨S_, .f32⟩
  | .hbm, ⟨93, _⟩ => ⟨S4x2048x8, .f32⟩
  | .hbm, ⟨94, _⟩ => ⟨S4x2048x8x1, .f32⟩
  | .hbm, ⟨95, _⟩ => ⟨S_, .f32⟩
  | .hbm, ⟨96, _⟩ => ⟨S4x2048x8x1, .f32⟩
  | .hbm, ⟨97, _⟩ => ⟨S4x2048x8x1, .f32⟩
  | .hbm, ⟨98, _⟩ => ⟨S_, .f32⟩
  | .hbm, ⟨99, _⟩ => ⟨S4x2048x8x1, .f32⟩
  | .hbm, ⟨100, _⟩ => ⟨S4x2048x8x1, .f32⟩
  | .hbm, ⟨101, _⟩ => ⟨S4x2048x8x1, .f32⟩
  | .hbm, ⟨102, _⟩ => ⟨S4x2048x8x256, .f32⟩
  | .hbm, ⟨103, _⟩ => ⟨S4x2048x8x256, .f32⟩
  | .hbm, ⟨104, _⟩ => ⟨S1x1x1x256, .f32⟩
  | .hbm, ⟨105, _⟩ => ⟨S4x2048x8x256, .f32⟩
  | .hbm, ⟨106, _⟩ => ⟨S4x2048x8x256, .f32⟩
  | .hbm, ⟨107, _⟩ => ⟨S_, .f32⟩
  | .hbm, ⟨108, _⟩ => ⟨S4x2048x8x256, .f32⟩
  | .hbm, ⟨109, _⟩ => ⟨S4x2048x8x256, .f32⟩
  | .hbm, ⟨110, _⟩ => ⟨S4x2048x2048, .f32⟩
  | .hbm, ⟨111, _⟩ => ⟨S4x2048x2048, .f32⟩
  | .hbm, ⟨112, _⟩ => ⟨S4x2048x2048, .f32⟩
  | .hbm, ⟨113, _⟩ => ⟨S_, .f32⟩
  | .hbm, ⟨114, _⟩ => ⟨S4x2048x2048, .f32⟩
  | .hbm, ⟨115, _⟩ => ⟨S4x2048x2048, .f32⟩
  | .hbm, ⟨116, _⟩ => ⟨S_, .f32⟩
  | .hbm, ⟨117, _⟩ => ⟨S4x2048x2048, .f32⟩
  | .hbm, ⟨118, _⟩ => ⟨S4x2048x2048, .f32⟩
  | .hbm, ⟨119, _⟩ => ⟨S4x2048x2048, .f32⟩
  | .hbm, ⟨120, _⟩ => ⟨S4x2048x2048, .f32⟩
  | .hbm, ⟨121, _⟩ => ⟨S8192x2048, .f32⟩
  | .hbm, ⟨122, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_cst_4 : Ref sig .tc := ⟨.hbm, 44, rfl⟩
abbrev main_cst_5 : Ref sig .tc := ⟨.hbm, 45, rfl⟩
abbrev main_cst_6 : Ref sig .tc := ⟨.hbm, 46, rfl⟩
abbrev main_cst_7 : Ref sig .tc := ⟨.hbm, 47, rfl⟩
abbrev main_cst_8 : Ref sig .tc := ⟨.hbm, 48, rfl⟩
abbrev main_cst_9 : Ref sig .tc := ⟨.hbm, 49, rfl⟩
abbrev main_cst_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_cst_15 : Ref sig .tc := ⟨.hbm, 95, rfl⟩
abbrev main_v76 : Ref sig .tc := ⟨.hbm, 96, rfl⟩
abbrev main_v77 : Ref sig .tc := ⟨.hbm, 97, rfl⟩
abbrev main_cst_16 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_17 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== AttnA.lean ====
abbrev S8192x5120 : Shape := ⟨2, ![8192, 5120]⟩
abbrev S16 : Shape := ⟨1, ![16]⟩
abbrev S8192x2048 : Shape := ⟨2, ![8192, 2048]⟩
abbrev S256x2048 : Shape := ⟨2, ![256, 2048]⟩
abbrev S128x512 : Shape := ⟨2, ![128, 512]⟩
abbrev S256x512 : Shape := ⟨2, ![256, 512]⟩
abbrev S128x128 : Shape := ⟨2, ![128, 128]⟩
abbrev S256x128 : Shape := ⟨2, ![256, 128]⟩
abbrev S512x128 : Shape := ⟨2, ![512, 128]⟩
abbrev S1 : Shape := ⟨1, ![1]⟩
abbrev S256 : Shape := ⟨1, ![256]⟩
abbrev S256x1 : Shape := ⟨2, ![256, 1]⟩

abbrev nBuf : Space → Nat
  | .hbm => 3
  | .vmem => 18
  | .smem => 1
  | _ => 0

abbrev bufTy : (tb : Table) → Fin (tcTables nBuf tb) → BufTy
  | .hbm, ⟨0, _⟩ => ⟨S8192x5120, .bf16⟩
  | .hbm, ⟨1, _⟩ => ⟨S16, .f32⟩
  | .hbm, ⟨2, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S128x512, .bf16⟩
  | .local _ .vmem, ⟨3, _⟩ => ⟨S128x512, .bf16⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S256x512, .bf16⟩
  | .local _ .vmem, ⟨11, _⟩ => ⟨S256x512, .bf16⟩
  | .local _ .vmem, ⟨12, _⟩ => ⟨S128x512, .bf16⟩
  | .local _ .vmem, ⟨13, _⟩ => ⟨S128x512, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .smem, ⟨0, _⟩ => ⟨S16, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli arg1 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c8_i32 : BitVec 32 := 8#32
  let c0_i32_0 : BitVec 32 := 0#32
  ![v4.toNat, c8_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c2_i32 : BitVec 32 := 2#32
  let v2 : BitVec 32 := Scalar.muli v1 c2_i32
  let c15_i32 : BitVec 32 := 15#32
  let v3 : BitVec 32 := Scalar.minsi v2 c15_i32
  let v4 : BitVec 32 := Scalar.addi v0 v3
  let c8_i32 : BitVec 32 := 8#32
  let c0_i32 : BitVec 32 := 0#32
  ![v4.toNat, c8_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli arg1 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c9_i32 : BitVec 32 := 9#32
  let c0_i32_0 : BitVec 32 := 0#32
  ![v4.toNat, c9_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c2_i32 : BitVec 32 := 2#32
  let v2 : BitVec 32 := Scalar.muli v1 c2_i32
  let c15_i32 : BitVec 32 := 15#32
  let v3 : BitVec 32 := Scalar.minsi v2 c15_i32
  let v4 : BitVec 32 := Scalar.addi v0 v3
  let c9_i32 : BitVec 32 := 9#32
  let c0_i32 : BitVec 32 := 0#32
  ![v4.toNat, c9_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnAIdeal.lean ====
variable {F : FTy → Type} [FloatOps F] [Named F]
def κ : String → Option EReal := fun
  | "mask" => some ⊥
  | _ => none
-- ==== AttnARefIdeal.lean ====
abbrev S8192x5120 : Shape := ⟨2, ![8192, 5120]⟩
abbrev S16 : Shape := ⟨1, ![16]⟩
abbrev S4x2048x5120 : Shape := ⟨3, ![4, 2048, 5120]⟩
abbrev S4x2048x2048 : Shape := ⟨3, ![4, 2048, 2048]⟩
abbrev S4x2048x512 : Shape := ⟨3, ![4, 2048, 512]⟩
abbrev S4x2048x4x4x128 : Shape := ⟨5, ![4, 2048, 4, 4, 128]⟩
abbrev S4x2048x4x128 : Shape := ⟨4, ![4, 2048, 4, 128]⟩
abbrev S4x4x2048x2048x4 : Shape := ⟨5, ![4, 4, 2048, 2048, 4]⟩
abbrev S4x4x4x2048x2048 : Shape := ⟨5, ![4, 4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1 : Shape := ⟨1, ![1]⟩
abbrev S16x1x1 : Shape := ⟨3, ![16, 1, 1]⟩
abbrev S1x2048x2048 : Shape := ⟨3, ![1, 2048, 2048]⟩
abbrev S16x2048x2048 : Shape := ⟨3, ![16, 2048, 2048]⟩
abbrev S4x4x2048x2048 : Shape := ⟨4, ![4, 4, 2048, 2048]⟩
abbrev S1x4x4x2048x2048 : Shape := ⟨5, ![1, 4, 4, 2048, 2048]⟩
abbrev S1x1x1x2048x2048 : Shape := ⟨5, ![1, 1, 1, 2048, 2048]⟩
abbrev S4x4 : Shape := ⟨2, ![4, 4]⟩
abbrev S1x4x4x1x1 : Shape := ⟨5, ![1, 4, 4, 1, 1]⟩
abbrev S4x4x4x2048x1 : Shape := ⟨5, ![4, 4, 4, 2048, 1]⟩
abbrev S4x4x4x2048x2049 : Shape := ⟨5, ![4, 4, 4, 2048, 2049]⟩
abbrev S4x4x4x2048 : Shape := ⟨4, ![4, 4, 4, 2048]⟩
abbrev S4x4x128x4x2048 : Shape := ⟨5, ![4, 4, 128, 4, 2048]⟩
abbrev S8192x2048 : Shape := ⟨2, ![8192, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S16, .f32⟩
  | .hbm, ⟨2, _⟩ => ⟨S8192x5120, .f32⟩
  | .hbm, ⟨3, _⟩ => ⟨S4x2048x5120, .f32⟩
  | .hbm, ⟨4, _⟩ => ⟨S4x2048x2048, .f32⟩
  | .hbm, ⟨5, _⟩ => ⟨S4x2048x2048, .f32⟩
  | .hbm, ⟨6, _⟩ => ⟨S4x2048x512, .f32⟩
  | .hbm, ⟨7, _⟩ => ⟨S4x2048x512, .f32⟩
  | .hbm, ⟨8, _⟩ => ⟨S4x2048x4x4x128, .f32⟩
  | .hbm, ⟨9, _⟩ => ⟨S4x2048x4x128, .f32⟩
  | .hbm, ⟨10, _⟩ => ⟨S4x2048x4x128, .f32⟩
  | .hbm, ⟨11, _⟩ => ⟨S4x4x2048x2048x4, .f32⟩
  | .hbm, ⟨12, _⟩ => ⟨S4x4x4x2048x2048, .f32⟩
  | .hbm, ⟨13, _⟩ => ⟨S_, .f32⟩
  | .hbm, ⟨14, _⟩ => ⟨S4x4x4x2048x2048, .f32⟩
  | .hbm, ⟨15, _⟩ => ⟨S4x4x4x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S16, .f32⟩
  | .hbm, ⟨56, _⟩ => ⟨S16x1x1, .f32⟩
  | .hbm, ⟨57, _⟩ => ⟨S16x1x1, .f32⟩
  | .hbm, ⟨58, _⟩ => ⟨S2048x2048, .i32⟩
  | .hbm, ⟨59, _⟩ => ⟨S2048x2048, .f32⟩
  | .hbm, ⟨60, _⟩ => ⟨S1x2048x2048, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S4x4x2048x2048, .f32⟩
  | .hbm, ⟨65, _⟩ => ⟨S1x4x4x2048x2048, .f32⟩
  | .hbm, ⟨66, _⟩ => ⟨S4x4x4x2048x2048, .f32⟩
  | .hbm, ⟨67, _⟩ => ⟨S4x4x4x2048x2048, .f32⟩
  | .hbm, ⟨68, _⟩ => ⟨S2048x2048, .i32⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S1x1x1x2048x2048, .i1⟩
  | .hbm, ⟨73, _⟩ => ⟨S_, .f32⟩
  | .hbm, ⟨74, _⟩ => ⟨S_, .f32⟩
  | .hbm, ⟨75, _⟩ => ⟨S4x4x4x2048x2048, .i1⟩
  | .hbm, ⟨76, _⟩ => ⟨S4x4x4x2048x2048, .f32⟩
  | .hbm, ⟨77, _⟩ => ⟨S4x4x4x2048x2048, .f32⟩
  | .hbm, ⟨78, _⟩ => ⟨S4x4, .f32⟩
  | .hbm, ⟨79, _⟩ => ⟨S1x4x4x1x1, .f32⟩
  | .hbm, ⟨80, _⟩ => ⟨S4x4x4x2048x1, .f32⟩
  | .hbm, ⟨81, _⟩ => ⟨S4x4x4x2048x2049, .f32⟩
  | .hbm, ⟨82, _⟩ => ⟨S_, .f32⟩
  | .hbm, ⟨83, _⟩ => ⟨S4x4x4x2048, .f32⟩
  | .hbm, ⟨84, _⟩ => ⟨S_, .f32⟩
  | .hbm, ⟨85, _⟩ => ⟨S4x4x4x2048, .f32⟩
  | .hbm, ⟨86, _⟩ => ⟨S4x4x4x2048, .f32⟩
  | .hbm, ⟨87, _⟩ => ⟨S4x4x4x2048x1, .f32⟩
  | .hbm, ⟨88, _⟩ => ⟨S4x4x4x2048x2049, .f32⟩
  | .hbm, ⟨89, _⟩ => ⟨S4x4x4x2048x2049, .f32⟩
  | .hbm, ⟨90, _⟩ => ⟨S4x4x4x2048x2049, .f32⟩
  | .hbm, ⟨91, _⟩ => ⟨S_, .f32⟩
  | .hbm, ⟨92, _⟩ => ⟨S4x4x4x2048, .f32⟩
  | .hbm, ⟨93, _⟩ => ⟨S4x4x4x2048x1, .f32⟩
  | .hbm, ⟨94, _⟩ => ⟨S4x4x4x2048x2049, .f32⟩
  | .hbm, ⟨95, _⟩ => ⟨S4x4x4x2048x2049, .f32⟩
  | .hbm, ⟨96, _⟩ => ⟨S4x4x4x2048x2048, .f32⟩
  | .hbm, ⟨97, _⟩ => ⟨S4x4x128x4x2048, .f32⟩
  | .hbm, ⟨98, _⟩ => ⟨S4x2048x4x4x128, .f32⟩
  | .hbm, ⟨99, _⟩ => ⟨S4x2048x2048, .f32⟩
  | .hbm, ⟨100, _⟩ => ⟨S4x2048x2048, .f32⟩
  | .hbm, ⟨101, _⟩ => ⟨S4x2048x2048, .f32⟩
  | .hbm, ⟨102, _⟩ => ⟨S_, .f32⟩
  | .hbm, ⟨103, _⟩ => ⟨S4x2048x2048, .f32⟩
  | .hbm, ⟨104, _⟩ => ⟨S4x2048x2048, .f32⟩
  | .hbm, ⟨105, _⟩ => ⟨S_, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S4x2048x2048, .f32⟩
  | .hbm, ⟨110, _⟩ => ⟨S8192x2048, .f32⟩
  | .hbm, ⟨111, _⟩ => ⟨S8192x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_cst_1 : Ref sig .tc := ⟨.hbm, 24, rfl⟩
abbrev main_cst_2 : Ref sig .tc := ⟨.hbm, 25, rfl⟩
abbrev main_cst_3 : Ref sig .tc := ⟨.hbm, 26, rfl⟩
abbrev main_cst_4 : Ref sig .tc := ⟨.hbm, 27, rfl⟩
abbrev main_cst_5 : Ref sig .tc := ⟨.hbm, 28, rfl⟩
abbrev main_cst_6 : Ref sig .tc := ⟨.hbm, 29, rfl⟩
abbrev main_cst_7 : Ref sig .tc := ⟨.hbm, 30, rfl⟩
abbrev main_cst_8 : Ref sig .tc := ⟨.hbm, 31, rfl⟩
abbrev main_cst_9 : Ref sig .tc := ⟨.hbm, 32, rfl⟩
abbrev main_cst_10 : Ref sig .tc := ⟨.hbm, 33, rfl⟩
abbrev main_cst_11 : Ref sig .tc := ⟨.hbm, 34, rfl⟩
abbrev main_cst_12 : Ref sig .tc := ⟨.hbm, 35, rfl⟩
abbrev main_cst_13 : Ref sig .tc := ⟨.hbm, 36, rfl⟩
abbrev main_cst_14 : Ref sig .tc := ⟨.hbm, 37, rfl⟩
abbrev main_cst_15 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_cst_18 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== AttnB.lean ====
abbrev S8192x8192 : Shape := ⟨2, ![8192, 8192]⟩
abbrev S16x15x31 : Shape := ⟨3, ![16, 15, 31]⟩
abbrev S7440 : Shape := ⟨1, ![7440]⟩
abbrev S16x8x64x512 : Shape := ⟨4, ![16, 8, 64, 512]⟩
abbrev S1x8x64x512 : Shape := ⟨4, ![1, 8, 64, 512]⟩
abbrev S64x64 : Shape := ⟨2, ![64, 64]⟩
abbrev S1 : Shape := ⟨1, ![1]⟩
abbrev S64x512 : Shape := ⟨2, ![64, 512]⟩
abbrev S1x1x64x512 : Shape := ⟨4, ![1, 1, 64, 512]⟩
abbrev S8192x2048 : Shape := ⟨2, ![8192, 2048]⟩
abbrev S2048x128 : Shape := ⟨2, ![2048, 128]⟩
abbrev S64x128 : Shape := ⟨2, ![64, 128]⟩
abbrev S512x128 : Shape := ⟨2, ![512, 128]⟩
abbrev S64 : Shape := ⟨1, ![64]⟩
abbrev S64x1 : Shape := ⟨2, ![64, 1]⟩

abbrev nBuf : Space → Nat
  | .hbm => 5
  | .vmem => 14
  | .smem => 1
  | _ => 0

abbrev bufTy : (tb : Table) → Fin (tcTables nBuf tb) → BufTy
  | .hbm, ⟨0, _⟩ => ⟨S8192x8192, .bf16⟩
  | .hbm, ⟨1, _⟩ => ⟨S16x15x31, .f32⟩
  | .hbm, ⟨2, _⟩ => ⟨S7440, .f32⟩
  | .hbm, ⟨3, _⟩ => ⟨S16x8x64x512, .f32⟩
  | .hbm, ⟨4, _⟩ => ⟨S8192x2048, .bf16⟩
  | .local _ .vmem, ⟨0, _⟩ => ⟨S1x8x64x512, .f32⟩
  | .local _ .vmem, ⟨1, _⟩ => ⟨S1x8x64x512, .f32⟩
  | .local _ .vmem, ⟨2, _⟩ => ⟨S1x8x64x512, .f32⟩
  | .local _ .vmem, ⟨3, _⟩ => ⟨S1x8x64x512, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .smem, ⟨0, _⟩ => ⟨S7440, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def k0_off1 (i : grid0.Coords) (c0_i32_3 : BitVec 32) (c0_i32_4 : BitVec 32) : Fin 1 → Nat :=
  let arg0 : BitVec 32 := BitVec.ofNat 32 (i 0).val
  let c465_i32 : BitVec 32 := 465#32
  let v22 : BitVec 32 := Scalar.muli arg0 c465_i32
  let v26 : BitVec 32 := Scalar.addi v22 c0_i32_3
  let v27 : BitVec 32 := Scalar.addi v26 c0_i32_4
  let v28 : Index := Scalar.indexCast v27
  ![v28.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

@[reducible] def k1_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c64_i32 : BitVec 32 := 64#32
  let v7 : BitVec 32 := Scalar.muli arg8 c64_i32
  v7
def k1_mult2 (k1_t1 : Fin k1_t1_loop.trips) : BitVec 32 :=
  let c24_i32 : BitVec 32 := 24#32
  let c0_i32_1 : BitVec 32 := 0#32
  let c0_i32 : BitVec 32 := 0#32
  let c1_i32 : BitVec 32 := 1#32
  let arg8 : BitVec 32 := Scf.iv c0_i32 c1_i32 k1_t1
  let c4_i32 : BitVec 32 := 4#32
  let v1 : BitVec 32 := Scalar.subi arg8 c4_i32
  let v2 : BitVec 32 := Scalar.maxsi c0_i32_1 v1
  let v3 : BitVec 32 := Scalar.minsi c24_i32 v2
  let c64_i32_3 : BitVec 32 := 64#32
  let v9 : BitVec 32 := Scalar.muli v3 c64_i32_3
  v9
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c64_i32 : BitVec 32 := 64#32
  let v7 : BitVec 32 := Scalar.muli arg8 c64_i32
  let v8 : BitVec 32 := v7
  let v11 : Index := Scalar.indexCast v8
  let c0 : Index := 0#32
  ![v11.toNat, 0]
def k1_off2 (k1_t1 : Fin k1_t1_loop.trips) : Fin 2 → Nat :=
  let c24_i32 : BitVec 32 := 24#32
  let c0_i32_1 : BitVec 32 := 0#32
  let c0_i32 : BitVec 32 := 0#32
  let c1_i32 : BitVec 32 := 1#32
  let arg8 : BitVec 32 := Scf.iv c0_i32 c1_i32 k1_t1
  let c4_i32 : BitVec 32 := 4#32
  let v1 : BitVec 32 := Scalar.subi arg8 c4_i32
  let v2 : BitVec 32 := Scalar.maxsi c0_i32_1 v1
  let v3 : BitVec 32 := Scalar.minsi c24_i32 v2
  let c64_i32_3 : BitVec 32 := 64#32
  let v9 : BitVec 32 := Scalar.muli v3 c64_i32_3
  let v10 : BitVec 32 := v9
  let v13 : Index := Scalar.indexCast v10
  let c0_4 : Index := 0#32
  ![v13.toNat, 0]
def k1_off3 (k1_t1 : Fin k1_t1_loop.trips) : Fin 4 → Nat :=
  let c0_7 : Index := 0#32
  let c24_i32 : BitVec 32 := 24#32
  let c0_i32_1 : BitVec 32 := 0#32
  let c0_i32 : BitVec 32 := 0#32
  let c1_i32 : BitVec 32 := 1#32
  let arg8 : BitVec 32 := Scf.iv c0_i32 c1_i32 k1_t1
  let c4_i32 : BitVec 32 := 4#32
  let v1 : BitVec 32 := Scalar.subi arg8 c4_i32
  let v2 : BitVec 32 := Scalar.maxsi c0_i32_1 v1
  let v3 : BitVec 32 := Scalar.minsi c24_i32 v2
  let v4 : BitVec 32 := Scalar.subi v3 arg8
  let c8_i32 : BitVec 32 := 8#32
  let v5 : BitVec 32 := Scalar.addi v4 c8_i32
  let c1_i32_2 : BitVec 32 := 1#32
  let v6 : BitVec 32 := Scalar.subi v5 c1_i32_2
  let v20 : Index := Scalar.indexCast v6
  let c0_8 : Index := 0#32
  let c0_9 : Index := 0#32
  ![0, v20.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage1_0 : Fin 2 → Memref sig .tc .vmem S1x8x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== AttnBIdeal.lean ====
variable {F : FTy → Type} [FloatOps F] [Named F]
def κ : String → Option EReal := fun
  | "mask" => some ⊥
  | _ => none
-- ==== AttnBRefIdeal.lean ====
abbrev S8192x8192 : Shape := ⟨2, ![8192, 8192]⟩
abbrev S16x15x31 : Shape := ⟨3, ![16, 15, 31]⟩
abbrev S4x2048x8192 : Shape := ⟨3, ![4, 2048, 8192]⟩
abbrev S4x2048x2048 : Shape := ⟨3, ![4, 2048, 2048]⟩
abbrev S4x2048x16x128 : Shape := ⟨4, ![4, 2048, 16, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4x16x2048x2048 : Shape := ⟨4, ![4, 16, 2048, 2048]⟩
abbrev S2048x2048x1 : Shape := ⟨3, ![2048, 2048, 1]⟩
abbrev S2048x2048x2 : Shape := ⟨3, ![2048, 2048, 2]⟩
abbrev S16x2048x2048 : Shape := ⟨3, ![16, 2048, 2048]⟩
abbrev S1x16x2048x2048 : Shape := ⟨4, ![1, 16, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 165
  | .vmem => 0
  | .smem => 0
  | _ => 0

abbrev hbmTy0_0 (i : Nat) : BufTy := match i % 128 with
  | 0 => ⟨S8192x8192, .bf16⟩
  | 1 => ⟨S16x15x31, .f32⟩
  | 2 => ⟨S8192x8192, .f32⟩
  | 3 => ⟨S4x2048x8192, .f32⟩
  | 4 => ⟨S4x2048x2048, .f32⟩
  | 5 => ⟨S4x2048x2048, .f32⟩
  | 6 => ⟨S4x2048x2048, .f32⟩
  | 7 => ⟨S4x2048x2048, .f32⟩
  | 8 => ⟨S4x2048x16x128, .f32⟩
  | 9 => ⟨S4x2048x16x128, .f32⟩
  | 10 => ⟨S4x2048x16x128, .f32⟩
  | 11 => ⟨S32, .i32⟩
  | 12 => ⟨S32x1, .i32⟩
  | 13 => ⟨S32x64, .i32⟩
  | 14 => ⟨S2048, .i32⟩
  | 15 => ⟨S64, .i32⟩
  | 16 => ⟨S1x64, .i32⟩
  | 17 => ⟨S32x64, .i32⟩
  | 18 => ⟨S2048, .i32⟩
  | 19 => ⟨S_, .i32⟩
  | 20 => ⟨S2048, .i32⟩
  | 21 => ⟨S2048, .i32⟩
  | 22 => ⟨S_, .i32⟩
  | 23 => ⟨S_, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048x1, .i32⟩
  | 31 => ⟨S_, .i32⟩
  | 32 => ⟨S2048, .i32⟩
  | 33 => ⟨S2048, .i32⟩
  | 34 => ⟨S_, .i32⟩
  | 35 => ⟨S_, .i32⟩
  | 36 => ⟨S_, .i32⟩
  | 37 => ⟨S2048, .i32⟩
  | 38 => ⟨S2048, .i32⟩
  | 39 => ⟨S_, .i32⟩
  | 40 => ⟨S2048, .i32⟩
  | 41 => ⟨S2048, .i32⟩
  | 42 => ⟨S2048x1, .i32⟩
  | 43 => ⟨S1x2048, .i32⟩
  | 44 => ⟨S2048x2048, .i32⟩
  | 45 => ⟨S2048x2048, .i32⟩
  | 46 => ⟨S2048x2048, .i1⟩
  | 47 => ⟨S1x2048, .i32⟩
  | 48 => ⟨S_, .i32⟩
  | 49 => ⟨S2048x1, .i32⟩
  | 50 => ⟨S2048x1, .i32⟩
  | 51 => ⟨S2048x2048, .i32⟩
  | 52 => ⟨S2048x2048, .i32⟩
  | 53 => ⟨S2048x2048, .i1⟩
  | 54 => ⟨S2048x2048, .i1⟩
  | 55 => ⟨S1x2048, .i32⟩
  | 56 => ⟨S2048x2048, .i32⟩
  | 57 => ⟨S2048x2048, .i32⟩
  | 58 => ⟨S2048x2048, .i1⟩
  | 59 => ⟨S2048x2048, .i1⟩
  | 60 => ⟨S1x2048, .i32⟩
  | 61 => ⟨S_, .i32⟩
  | 62 => ⟨S2048x1, .i32⟩
  | 63 => ⟨S2048x1, .i32⟩
  | 64 => ⟨S2048x2048, .i32⟩
  | 65 => ⟨S2048x2048, .i32⟩
  | 66 => ⟨S2048x2048, .i1⟩
  | 67 => ⟨S2048x2048, .i1⟩
  | 68 => ⟨S1x2048, .i32⟩
  | 69 => ⟨S2048x1, .i32⟩
  | 70 => ⟨S2048x2048, .i32⟩
  | 71 => ⟨S2048x2048, .i32⟩
  | 72 => ⟨S2048x2048, .i32⟩
  | 73 => ⟨S_, .i32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S_, .i32⟩
  | 80 => ⟨S_, .i32⟩
  | 81 => ⟨S_, .i32⟩
  | 82 => ⟨S2048x2048, .i32⟩
  | 83 => ⟨S2048x2048, .i32⟩
  | 84 => ⟨S_, .i32⟩
  | 85 => ⟨S2048x2048, .i32⟩
  | 86 => ⟨S2048x2048, .i32⟩
  | 87 => ⟨S1x2048, .i32⟩
  | 88 => ⟨S2048x1, .i32⟩
  | 89 => ⟨S2048x2048, .i32⟩
  | 90 => ⟨S2048x2048, .i32⟩
  | 91 => ⟨S2048x2048, .i32⟩
  | 92 => ⟨S_, .i32⟩
  | 93 => ⟨S2048x2048, .i32⟩
  | 94 => ⟨S2048x2048, .i32⟩
  | 95 => ⟨S_, .i32⟩
  | 96 => ⟨S2048x2048, .i32⟩
  | 97 => ⟨S2048x2048, .i32⟩
  | 98 => ⟨S_, .i32⟩
  | 99 => ⟨S_, .i32⟩
  | 100 => ⟨S_, .i32⟩
  | 101 => ⟨S2048x2048, .i32⟩
  | 102 => ⟨S2048x2048, .i32⟩
  | 103 => ⟨S_, .i32⟩
  | 104 => ⟨S2048x2048, .i32⟩
  | 105 => ⟨S2048x2048, .i32⟩
  | 106 => ⟨S4x16x2048x2048, .f32⟩
  | 107 => ⟨S_, .f32⟩
  | 108 => ⟨S4x16x2048x2048, .f32⟩
  | 109 => ⟨S4x16x2048x2048, .f32⟩
  | 110 => ⟨S_, .i32⟩
  | 111 => ⟨S2048x2048, .i32⟩
  | 112 => ⟨S2048x2048, .i1⟩
  | 113 => ⟨S_, .i32⟩
  | 114 => ⟨S2048x2048, .i32⟩
  | 115 => ⟨S2048x2048, .i32⟩
  | 116 => ⟨S2048x2048, .i32⟩
  | 117 => ⟨S_, .i32⟩
  | 118 => ⟨S2048x2048, .i32⟩
  | 119 => ⟨S2048x2048, .i1⟩
  | 120 => ⟨S_, .i32⟩
  | 121 => ⟨S2048x2048, .i32⟩
  | 122 => ⟨S2048x2048, .i32⟩
  | 123 => ⟨S2048x2048, .i32⟩
  | 124 => ⟨S2048x2048x1, .i32⟩
  | 125 => ⟨S2048x2048x1, .i32⟩
  | 126 => ⟨S2048x2048x2, .i32⟩
  | 127 => ⟨S16x2048x2048, .f32⟩
  | _ => ⟨S8192x8192, .bf16⟩

abbrev hbmTy0_1 (i : Nat) : BufTy := match i % 128 with
  | 0 => ⟨S1x16x2048x2048, .f32⟩
  | 1 => ⟨S4x16x2048x2048, .f32⟩
  | 2 => ⟨S4x16x2048x2048, .f32⟩
  | 3 => ⟨S_, .f32⟩
  | 4 => ⟨S_, .f32⟩
  | 5 => ⟨S4x16x2048x2048, .i1⟩
  | 6 => ⟨S4x16x2048x2048, .f32⟩
  | 7 => ⟨S4x16x2048x2048, .f32⟩
  | 8 => ⟨S_, .f32⟩
  | 9 => ⟨S4x16x2048, .f32⟩
  | 10 => ⟨S_, .f32⟩
  | 11 => ⟨S4x16x2048, .f32⟩
  | 12 => ⟨S4x16x2048, .f32⟩
  | 13 => ⟨S4x16x2048x1, .f32⟩
  | 14 => ⟨S4x16x2048x2048, .f32⟩
  | 15 => ⟨S4x16x2048x2048, .f32⟩
  | 16 => ⟨S4x16x2048x2048, .f32⟩
  | 17 => ⟨S_, .f32⟩
  | 18 => ⟨S4x16x2048, .f32⟩
  | 19 => ⟨S4x16x2048x1, .f32⟩
  | 20 => ⟨S4x16x2048x2048, .f32⟩
  | 21 => ⟨S4x16x2048x2048, .f32⟩
  | 22 => ⟨S4x16x128x2048, .f32⟩
  | 23 => ⟨S4x2048x16x128, .f32⟩
  | 24 => ⟨S4x2048x2048, .f32⟩
  | 25 => ⟨S4x2048x2048, .f32⟩
  | 26 => ⟨S4x2048x2048, .f32⟩
  | 27 => ⟨S_, .f32⟩
  | 28 => ⟨S4x2048x2048, .f32⟩
  | 29 => ⟨S4x2048x2048, .f32⟩
  | 30 => ⟨S_, .f32⟩
  | 31 => ⟨S4x2048x2048, .f32⟩
  | 32 => ⟨S4x2048x2048, .f32⟩
  | 33 => ⟨S4x2048x2048, .f32⟩
  | 34 => ⟨S4x2048x2048, .f32⟩
  | 35 => ⟨S8192x2048, .f32⟩
  | 36 => ⟨S8192x2048, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_c_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_c_14 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v67 : Ref sig .tc := ⟨.hbm, 105, rfl⟩
abbrev main_v68 : Ref sig .tc := ⟨.hbm, 106, rfl⟩
abbrev main_cst : Ref sig .tc := ⟨.hbm, 107, rfl⟩
abbrev main_v69 : Ref sig .tc := ⟨.hbm, 108, rfl⟩
abbrev main_v70 : Ref sig .tc := ⟨.hbm, 109, rfl⟩
abbrev main_c_15 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_c_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v88 : Ref sig .tc := ⟨.hbm, 135, rfl⟩
abbrev main_cst_20 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_22 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩

abbrev nD : Nat := 1
abbrev τ : Topo := Topo.v7x

variable {F : FTy → Type} [FloatOps F]
-- ==== Proof.InProj.lean ====
/- The input projection of the neighbourhood and the differential layer. -/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit

@[expose] public section

set_option maxRecDepth 16384

noncomputable section

namespace Cert.InProjIdeal.Array

open Cert.InProjIdeal Cert.InProjIdeal.Gen Idealize.ShloMosaic Idealize.ShloMosaic.TcCoe Idealize.SL.Sem
open Cert.InProjRefIdeal.Read

variable (m : (ℓ : Loc nD τ sig) → Buf (Elt Ideal) ℓ)

/-- Where a grid point's blocks lie in their arrays. -/
theorem places : ∀ t : Fin grid0.N, win0_0.index t = ![(grid0.coords t 0).val, 0] ∧ win0_1.index t = ![0, (grid0.coords t 1).val] ∧ win0_2.index t = ![(grid0.coords t 0).val, (grid0.coords t 1).val] := by
  decide +kernel

/-- The array after the run is the reference's product. -/
theorem array (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_v1, val_main_v2]
  blk_point [iblk, V, places t]

/-- The call and the reference's lines end with the same arrays, on every device. -/
theorem algebraic : Cert.algebraic_InProjIdeal_InProjRefIdeal := by
  intro m g m' g' _ h
  refine ⟨fun c => (dats m 0 c).arrAt 2 cfg0.N, Value.run_blocks m g, ?_⟩
  refine (θ_run _ _ _).mono (fun r hr c => ?_) (Cert.InProjRefIdeal.Value.run m' g')
  obtain ⟨r0, hkept⟩ := hr c
  obtain ⟨h0, h1⟩ := h c
  refine ⟨?_, hkept⟩
  · refine r0.trans (Eq.trans ?_ (array m c).symm)
    rw [h0, h1]
    exact val_main_v2_eq _ _

end Cert.InProjIdeal.Array

end
-- ==== Proof.InProjA.lean ====
/- The input projection of the two window layers, the gate's columns first. -/
module

public import proofs.«01_k».proof.Defs
public import proofs.«01_k».proof.Proof.Gen.InProjAIdeal.Value
public import proofs.«01_k».proof.Proof.Gen.InProjARefIdeal.Run
public import proofs.«01_k».proof.Proof.Gen.InProjARefIdeal.Read
public import Idealize.ShloMosaic.Lib.Pipeline.ValueKit

@[expose] public section

set_option maxRecDepth 16384

noncomputable section

namespace Cert.InProjAIdeal.Array

open Cert.InProjAIdeal Cert.InProjAIdeal.Gen Idealize.ShloMosaic Idealize.ShloMosaic.TcCoe Idealize.SL.Sem
open Cert.InProjARefIdeal.Read

variable (m : (ℓ : Loc nD τ sig) → Buf (Elt Ideal) ℓ)

/-- Where a grid point's blocks lie in their arrays. -/
theorem places : ∀ t : Fin grid0.N, win0_0.index t = ![(grid0.coords t 0).val, 0] ∧ win0_1.index t = ![0, (grid0.coords t 1).val] ∧ win0_2.index t = ![(grid0.coords t 0).val, (grid0.coords t 1).val] := by
  decide +kernel

/-- The weights that the call multiplies by: the gate's columns, then those of q, k and v. -/
theorem weights (c : Dev nD) (r : Fin 2048) (j : Fin 5120) : V m c main_v3 (ix2 r j)
    = if h : j.val < 2048 then m ((c : Thread nD τ).loc main_arg1) (ix2 r ⟨3072 + j.val, by omega⟩)
      else m ((c : Thread nD τ).loc main_arg1) (ix2 r ⟨j.val - 2048, by omega⟩) := by
  entry_read
  pointwise

/-- The product of the tokens with a weight matrix. -/
def prod (x : S8192x2048.Idx → EReal) (w : S2048x5120.Idx → EReal) : S8192x5120.Idx → EReal :=
  fun i => ∑ k : Fin 2048, x (ix2 (i 0) k) * w (ix2 k (i 1))

/-- The array after the run is the product of the tokens with the permuted weights. -/
theorem product (c : Dev nD) : (dats m 0 c).arrAt 2 cfg0.N = prod (m ((c : Thread nD τ).loc main_arg0)) (V m c main_v3) := by
  refine (dats m 0 c).arrAt_eq_of_covers 2 _ (by decide +kernel) fun t hf y => ?_
  blk_simp
  rw [after0_2]
  frame_out
  pointwise [k0_pay1, prod]
  blk_point [iblk, V, places t]

/-- The array after the run is the reference's product, its columns in the call's order. -/
theorem array (c : Dev nD) : (dats m 0 c).arrAt 2 cfg0.N
    = val_main_v7 (F := Ideal) (m ((c : Thread nD τ).loc main_arg0)) (m ((c : Thread nD τ).loc main_arg1)) := by
  rw [product]
  funext i
  idx_vars i
  pointwise [prod, weights, val_main_v0, val_main_v1, val_main_v2, val_main_v3, val_main_v4, val_main_v5, val_main_v6, val_main_v7]
  have w : ∀ x : Fin 2048, _ := fun x => weights m c x i1
  have key : ∀ (x : Fin 2048) (a b : Fin 5120), a.val = b.val →
      m ((c : Thread nD τ).loc main_arg1) (ix2 x a) = m ((c : Thread nD τ).loc main_arg1) (ix2 x b) :=
    fun x a b h => by rw [Fin.ext h]
  by_cases h1 : i1.val < 2048
  · refine Eq.trans ?_ (dif_pos h1).symm
    exact Finset.sum_congr rfl fun x _ => Ideal.mul_congr rfl ((w x).trans (dif_pos h1))
  refine Eq.trans ?_ (dif_neg h1).symm
  by_cases h2 : i1.val - 2048 < 2048
  · refine Eq.trans ?_ (dif_pos h2).symm
    exact Finset.sum_congr rfl fun x _ => Ideal.mul_congr rfl ((w x).trans (dif_neg h1))
  refine Eq.trans ?_ (dif_neg h2).symm
  by_cases h3 : i1.val - 2048 - 2048 < 512
  · refine Eq.trans ?_ (dif_pos h3).symm
    refine Finset.sum_congr rfl fun x _ => Ideal.mul_congr rfl ((w x).trans ((dif_neg h1).trans (key _ _ _ ?_)))
    simp only
    omega
  · refine Eq.trans ?_ (dif_neg h3).symm
    refine Finset.sum_congr rfl fun x _ => Ideal.mul_congr rfl ((w x).trans ((dif_neg h1).trans (key _ _ _ ?_)))
    simp only
    omega

/-- The call and the reference's lines end with the same arrays, on every device. -/
theorem algebraic : Cert.algebraic_InProjAIdeal_InProjARefIdeal := by
  intro m g m' g' _ h
  refine ⟨fun c => (dats m 0 c).arrAt 2 cfg0.N, Value.run_blocks m g, ?_⟩
  refine (θ_run _ _ _).mono (fun r hr c => ?_) (Cert.InProjARefIdeal.Value.run m' g')
  obtain ⟨r0, hkept⟩ := hr c
  obtain ⟨h0, h1⟩ := h c
  refine ⟨?_, hkept⟩
  · refine r0.trans (Eq.trans ?_ (array m c).symm)
    rw [h0, h1]
    exact val_main_v7_eq _ _

end Cert.InProjAIdeal.Array

end
-- ==== Proof.Tail.lean ====
/- A layer's output projection, residual sum and gated embedding, with the next layer's normed input. -/
module

public import proofs.«01_k».proof.Defs
public import proofs.«01_k».proof.Proof.Gen.TailIdeal.Value
public import proofs.«01_k».proof.Proof.Gen.TailRefIdeal.Run
public import proofs.«01_k».proof.Proof.Gen.TailRefIdeal.Read
public import Idealize.ShloMosaic.Lib.Pipeline.ValueKit

@[expose] public section

set_option maxRecDepth 16384

noncomputable section

namespace Cert.TailIdeal.Array

open Cert.TailIdeal Cert.TailIdeal.Gen Idealize.ShloMosaic Idealize.ShloMosaic.TcCoe Idealize.SL.Sem
open Cert.TailRefIdeal.Read

variable (m : (ℓ : Loc nD τ sig) → Buf (Elt Ideal) ℓ)

/-- Where a grid point's blocks lie in their arrays. -/
theorem places : ∀ t : Fin grid0.N, win0_0.index t = ![(grid0.coords t 0).val, 0] ∧ win0_1.index t = ![(grid0.coords t 0).val, 0] ∧ win0_2.index t = ![(grid0.coords t 0).val, 0] ∧ win0_3.index t = ![0, 0] ∧ win0_4.index t = ![0, 0] ∧ win0_5.index t = ![0, 0] ∧ win0_6.index t = ![0, 0] ∧ win0_7.index t = ![0, 0] ∧ win0_8.index t = ![(grid0.coords t 0).val, 0] ∧ win0_9.index t = ![(grid0.coords t 0).val, 0] := by
  decide +kernel

/-- A point's block of the residual stream. -/
theorem block (c : Dev nD) (t : Fin cfg0.N) (y : S256x2048.Idx) :
    k0_pay2 (iblk m c 0 t) (iblk m c 3 t) (iblk m c 1 t) (iblk m c 6 t) (iblk m c 4 t) (iblk m c 2 t) (iblk m c 5 t) y
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  pointwise [Ideal.logistic, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23, val_main_v24, val_main_v25]
  blk_point [iblk, V, places t]

/-- The first array after the run is the reference's residual stream. -/
theorem stream (c : Dev nD) : (dats m 0 c).arrAt 8 cfg0.N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  exact block m c t y

/-- The second array after the run is the next layer's normed input. -/
theorem normed (c : Dev nD) : (dats m 0 c).arrAt 9 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  frame_out
  rw [show k0_pay2 (iblk m c 0 t) (iblk m c 3 t) (iblk m c 1 t) (iblk m c 6 t) (iblk m c 4 t) (iblk m c 2 t) (iblk m c 5 t)
    = fun y => val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) from
    funext (block m c t)]
  pointwise [k0_pay1, val_main_v26, val_main_cst_4, val_main_v27, val_main_v28, val_main_cst_5, val_main_v29, val_main_v30, val_main_cst_6, val_main_v31, val_main_v32, val_main_v33, val_main_v34, val_main_v35, val_main_v36, val_main_v37, val_main_v38, val_main_v39]
  blk_point [iblk, V, places t]

/-- The call and the reference's lines end with the same arrays, on every device. -/
theorem algebraic : Cert.algebraic_TailIdeal_TailRefIdeal := by
  intro m g m' g' _ h
  refine ⟨fun c => (dats m 0 c).arrAt 8 cfg0.N, fun c => (dats m 0 c).arrAt 9 cfg0.N, Value.run_blocks m g, ?_⟩
  refine (θ_run _ _ _).mono (fun r hr c => ?_) (Cert.TailRefIdeal.Value.run m' g')
  obtain ⟨r0, r1, hkept⟩ := hr c
  obtain ⟨h0, h1, h2, h3, h4, h5, h6, h7⟩ := h c
  refine ⟨?_, ?_, hkept⟩
  · refine r0.trans (Eq.trans ?_ (stream m c).symm)
    rw [h0, h1, h2, h3, h4, h5, h6]
    exact val_main_v25_eq _ _ _ _ _ _ _
  · refine r1.trans ((val_main_v39_eq m' c).trans (Eq.trans ?_ (normed m c).symm))
    rw [h0, h1, h2, h3, h4, h5, h6, h7]

end Cert.TailIdeal.Array

end
-- ==== Proof.TailLast.lean ====
/- The last layer's output projection, residual sum and gated embedding. -/
module

public import proofs.«01_k».proof.Defs
public import proofs.«01_k».proof.Proof.Gen.TailLastIdeal.Value
public import proofs.«01_k».proof.Proof.Gen.TailLastRefIdeal.Run
public import proofs.«01_k».proof.Proof.Gen.TailLastRefIdeal.Read
public import Idealize.ShloMosaic.Lib.Pipeline.ValueKit

@[expose] public section

set_option maxRecDepth 16384

noncomputable section

namespace Cert.TailLastIdeal.Array

open Cert.TailLastIdeal Cert.TailLastIdeal.Gen Idealize.ShloMosaic Idealize.ShloMosaic.TcCoe Idealize.SL.Sem
open Cert.TailLastRefIdeal.Read

variable (m : (ℓ : Loc nD τ sig) → Buf (Elt Ideal) ℓ)

/-- Where a grid point's blocks lie in their arrays. -/
theorem places : ∀ t : Fin grid0.N, win0_0.index t = ![(grid0.coords t 0).val, 0] ∧ win0_1.index t = ![(grid0.coords t 0).val, 0] ∧ win0_2.index t = ![(grid0.coords t 0).val, 0] ∧ win0_3.index t = ![0, 0] ∧ win0_4.index t = ![0, 0] ∧ win0_5.index t = ![0, 0] ∧ win0_6.index t = ![0, 0] ∧ win0_7.index t = ![0, 0] ∧ win0_8.index t = ![(grid0.coords t 0).val, 0] := by
  decide +kernel

/-- The array after the run is the reference's residual stream. -/
theorem stream (c : Dev nD) : (dats m 0 c).arrAt 8 cfg0.N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  pointwise [Ideal.logistic, k0_pay1, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23, val_main_v24, val_main_v25]
  blk_point [iblk, V, places t]

/-- The call and the reference's lines end with the same arrays, on every device. -/
theorem algebraic : Cert.algebraic_TailLastIdeal_TailLastRefIdeal := by
  intro m g m' g' _ h
  refine ⟨fun c => (dats m 0 c).arrAt 8 cfg0.N, Value.run_blocks m g, ?_⟩
  refine (θ_run _ _ _).mono (fun r hr c => ?_) (Cert.TailLastRefIdeal.Value.run m' g')
  obtain ⟨r0, hkept⟩ := hr c
  obtain ⟨h0, h1, h2, h3, h4, h5, h6⟩ := h c
  refine ⟨?_, hkept⟩
  · refine r0.trans (Eq.trans ?_ (stream m c).symm)
    rw [h0, h1, h2, h3, h4, h5, h6]
    exact val_main_v25_eq _ _ _ _ _ _ _

end Cert.TailLastIdeal.Array

end
-- ==== Proof.Prenorm.lean ====
/- The first layer's normed input. -/
module

public import proofs.«01_k».proof.Defs
public import proofs.«01_k».proof.Proof.Gen.PrenormIdeal.Value
public import proofs.«01_k».proof.Proof.Gen.PrenormRefIdeal.Run
public import proofs.«01_k».proof.Proof.Gen.PrenormRefIdeal.Read
public import Idealize.ShloMosaic.Lib.Pipeline.ValueKit

@[expose] public section

set_option maxRecDepth 16384

noncomputable section

namespace Cert.PrenormIdeal.Array

open Cert.PrenormIdeal Cert.PrenormIdeal.Gen Idealize.ShloMosaic Idealize.ShloMosaic.TcCoe Idealize.SL.Sem
open Cert.PrenormRefIdeal.Read

variable (m : (ℓ : Loc nD τ sig) → Buf (Elt Ideal) ℓ)

/-- Where a grid point's blocks lie in their arrays. -/
theorem places : ∀ t : Fin grid0.N, win0_0.index t = ![(grid0.coords t 0).val, 0] ∧ win0_1.index t = ![0, 0] ∧ win0_2.index t = ![(grid0.coords t 0).val, 0] := by
  decide +kernel

/-- The array after the run is the reference's normed input. -/
theorem array (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, places t]

/-- The call and the reference's lines end with the same arrays, on every device. -/
theorem algebraic : Cert.algebraic_PrenormIdeal_PrenormRefIdeal := by
  intro m g m' g' _ h
  refine ⟨fun c => (dats m 0 c).arrAt 2 cfg0.N, Value.run_blocks m g, ?_⟩
  refine (θ_run _ _ _).mono (fun r hr c => ?_) (Cert.PrenormRefIdeal.Value.run m' g')
  obtain ⟨r0, hkept⟩ := hr c
  obtain ⟨h0, h1⟩ := h c
  refine ⟨?_, hkept⟩
  · refine r0.trans (Eq.trans ?_ (array m c).symm)
    rw [h0, h1]
    exact val_main_v13_eq _ _

end Cert.PrenormIdeal.Array

end
-- ==== Proof.Softmax.lean ====
/- The softmax of a row of scores over the extended reals, and what becomes of it when the scores are real numbers. -/
module

public import Idealize.ShloMosaic.PureOps.Ideal
public import Idealize.ShloMosaic.PureOps.Ideal.Laws

@[expose] public section

noncomputable section

namespace Cert.Softmax

open Idealize.ShloMosaic

/-- The pattern of minus infinity. -/
theorem lowest : Ideal.ofBits .f32 0xFF800000#32 = ⊥ := by
  simp [Ideal.ofBits, Ideal.ieee]

/-- The largest score of a row. -/
def peak {n : ℕ} (S : Fin n → EReal) : EReal := Finset.univ.fold max ⊥ S

/-- The weight of a score before the division. -/
def weight {n : ℕ} (S : Fin n → EReal) (s : Fin n) : EReal := Ideal.exp (S s - peak S)

/-- The sum of a row's weights. -/
def total {n : ℕ} (S : Fin n → EReal) : EReal := ∑ s, weight S s

/-- The softmax of a row. -/
def soft {n : ℕ} (S : Fin n → EReal) (s : Fin n) : EReal := Ideal.div (weight S s) (total S)

/-- A real number, among the extended ones. -/
def IsReal (x : EReal) : Prop := x ≠ ⊤ ∧ x ≠ ⊥

theorem IsReal.coe (r : ℝ) : IsReal (r : EReal) := ⟨EReal.coe_ne_top r, EReal.coe_ne_bot r⟩

theorem IsReal.exists_coe {x : EReal} (h : IsReal x) : ∃ r : ℝ, x = r := by
  lift x to ℝ using ⟨h.1, h.2⟩
  exact ⟨x, rfl⟩

/-- The pattern of infinity. -/
theorem highest : Ideal.ofBits .f32 0x7F800000#32 = ⊤ := by
  simp [Ideal.ofBits, Ideal.ieee]

/-- A number whose magnitude compares below infinity is real. -/
theorem isReal_of_below {x : EReal} (h : Ideal.cmp .olt (max x (-x)) ⊤ = 1#1) : IsReal x := by
  induction x with
  | bot => simp [Ideal.cmp] at h
  | top => simp [Ideal.cmp] at h
  | coe r => exact IsReal.coe r

theorem IsReal.add {x y : EReal} (hx : IsReal x) (hy : IsReal y) : IsReal (x + y) := by
  obtain ⟨a, rfl⟩ := hx.exists_coe
  obtain ⟨b, rfl⟩ := hy.exists_coe
  exact EReal.coe_add a b ▸ IsReal.coe _

theorem IsReal.sub {x y : EReal} (hx : IsReal x) (hy : IsReal y) : IsReal (x - y) := by
  obtain ⟨a, rfl⟩ := hx.exists_coe
  obtain ⟨b, rfl⟩ := hy.exists_coe
  exact EReal.coe_sub a b ▸ IsReal.coe _

theorem IsReal.mul {x y : EReal} (hx : IsReal x) (hy : IsReal y) : IsReal (x * y) := by
  obtain ⟨a, rfl⟩ := hx.exists_coe
  obtain ⟨b, rfl⟩ := hy.exists_coe
  exact EReal.coe_mul a b ▸ IsReal.coe _

theorem IsReal.sum {n : ℕ} {f : Fin n → EReal} (h : ∀ i, IsReal (f i)) : IsReal (∑ i, f i) := by
  refine Finset.sum_induction f IsReal (fun _ _ => IsReal.add) ?_ fun i _ => h i
  exact IsReal.coe 0

/-- A row's largest score is one of the scores, if the row has any. -/
theorem peak_mem {n : ℕ} (S : Fin n → EReal) (i : Fin n) : ∃ s, peak S = S s := by
  have key : ∀ A : Finset (Fin n), A.fold max ⊥ S = ⊥ ∨ ∃ s ∈ A, A.fold max ⊥ S = S s := by
    intro A
    induction A using Finset.induction_on with
    | empty => exact Or.inl rfl
    | insert a A ha ih =>
      rw [Finset.fold_insert ha]
      rcases max_choice (S a) (A.fold max ⊥ S) with h | h
      · exact Or.inr ⟨a, Finset.mem_insert_self a A, h⟩
      · rcases ih with h0 | ⟨s, hs, h1⟩
        · exact Or.inl (h.trans h0)
        · exact Or.inr ⟨s, Finset.mem_insert_of_mem hs, h.trans h1⟩
  rcases key Finset.univ with h | ⟨s, _, h⟩
  · refine ⟨i, h.trans (Eq.symm ?_)⟩
    have : S i ≤ Finset.univ.fold max ⊥ S := (Finset.le_fold_max (S i)).2 (Or.inr ⟨i, Finset.mem_univ i, le_rfl⟩)
    exact le_bot_iff.1 (this.trans h.le)
  · exact ⟨s, h⟩

theorem le_peak {n : ℕ} (S : Fin n → EReal) (i : Fin n) : S i ≤ peak S :=
  (Finset.le_fold_max (S i)).2 (Or.inr ⟨i, Finset.mem_univ i, le_rfl⟩)

theorem exp_nonneg (x : EReal) : 0 ≤ Ideal.exp x := by
  induction x with
  | bot => simp
  | top => simp
  | coe r => simpa using (Real.exp_pos r).le

theorem weight_nonneg {n : ℕ} (S : Fin n → EReal) (s : Fin n) : 0 ≤ weight S s := exp_nonneg _

/-- With a real largest score, the weights sum to something other than zero. -/
theorem total_pos {n : ℕ} (S : Fin n → EReal) (i : Fin n) (h : IsReal (peak S)) : 0 < total S := by
  obtain ⟨s, hs⟩ := peak_mem S i
  obtain ⟨r, hr⟩ := h.exists_coe
  have one : weight S s = 1 := by
    rw [weight, ← hs, hr, show (r : EReal) - r = ((r - r : ℝ) : EReal) from rfl, sub_self, Ideal.exp_coe, Real.exp_zero]
    rfl
  refine lt_of_lt_of_le zero_lt_one (one ▸ ?_)
  exact Finset.single_le_sum (fun s _ => weight_nonneg S s) (Finset.mem_univ s)

/-- With a real largest score and no score above the real numbers, the weights sum to a real number. -/
theorem total_real {n : ℕ} (S : Fin n → EReal) (h : IsReal (peak S)) : IsReal (total S) := by
  refine IsReal.sum fun s => ?_
  have hs := le_peak S s
  obtain ⟨r, hr⟩ := h.exists_coe
  rw [weight]
  rw [hr] at hs ⊢
  generalize S s = x at hs
  induction x with
  | bot => simpa using IsReal.coe 0
  | top => exact absurd hs (by simp)
  | coe y => exact (show Ideal.exp ((y : EReal) - r) = _ from Ideal.exp_coe (y - r)) ▸ IsReal.coe _

theorem peak_real {n : ℕ} (S : Fin n → EReal) (i : Fin n) (h : ∀ s, IsReal (S s)) : IsReal (peak S) := by
  obtain ⟨s, hs⟩ := peak_mem S i
  exact hs ▸ h s

/-- Multiplying by the reciprocal of the sum is dividing by it, if it is not zero. -/
theorem mul_recip {x l : EReal} (h : l ≠ 0) : x * Ideal.div 1 l = Ideal.div x l := by
  simp [Ideal.div, h]

/-- A sum divided by a positive real number is the sum of the quotients. -/
theorem div_sum {n : ℕ} (f : Fin n → EReal) {l : EReal} (h0 : 0 < l) :
    Ideal.div (∑ s, f s) l = ∑ s, Ideal.div (f s) l := by
  have inv : ∀ x, Ideal.div x l = x * l⁻¹ := fun x => by simp [Ideal.div, h0.ne']
  simp only [inv]
  have hn : 0 ≤ l⁻¹ := EReal.inv_nonneg_of_nonneg h0.le
  have ht : l⁻¹ ≠ ⊤ := by
    induction l with
    | bot => simp
    | top => simp
    | coe r => rw [← EReal.coe_inv]; exact EReal.coe_ne_top _
  induction (Finset.univ : Finset (Fin n)) using Finset.induction_on with
  | empty => simp
  | insert a A ha ih => rw [Finset.sum_insert ha, Finset.sum_insert ha, ← ih, EReal.right_distrib_of_nonneg_of_ne_top hn ht]

/-- With real scores, the weights times the reciprocal of their sum are the softmax. -/
theorem weight_mul_recip {n : ℕ} (S : Fin n → EReal) (i : Fin n) (h : ∀ s, IsReal (S s)) :
    (fun s => weight S s * Ideal.div 1 (total S)) = soft S :=
  funext fun _ => mul_recip (total_pos S i (peak_real S i h)).ne'

end Cert.Softmax

end
-- ==== Proof.AttnCSpec.lean ====
/- The lines of the differential attention's reference, read at an index. -/
module

public import proofs.«01_k».proof.Defs
public import proofs.«01_k».proof.Proof.Gen.AttnCRefIdeal.Read
public import proofs.«01_k».proof.Proof.Softmax
public import Idealize.ShloMosaic.Lib.Pipeline.ValueKit

@[expose] public section

set_option maxRecDepth 16384

noncomputable section

namespace Cert.AttnCRefIdeal.Stage

open Cert.AttnCRefIdeal Cert.AttnCRefIdeal.Gen Idealize.ShloMosaic Idealize.ShloMosaic.TcCoe Idealize.SL.Sem Cert.AttnCRefIdeal.Read Cert.Softmax

/-- The headSlope of a head's distance term. -/
def headSlope (h : Fin 8) : EReal := val_main_v44 (F := Ideal) (ix1 h)

/-- The distance of a query's and a key's positions. -/
def gap (t s : ℕ) : EReal :=
  FloatOps.sitofp (F := Ideal) FTy.f32 (IntOp.absi (IntOp.subi (BitVec.ofNat 32 t) (BitVec.ofNat 32 s)))

/-- The score of query `t` and key `s` of batch `b` in map `p` of head `h`, from the projections `P`. -/
def score (P : S8192x8192.Idx → EReal) (b : Fin 4) (h : Fin 8) (p : Fin 2) (t s : Fin 2048) : EReal :=
  (∑ x : Fin 128, P (ix2 ⟨b.val * 2048 + t.val, by omega⟩ ⟨h.val * 256 + p.val * 128 + x.val, by omega⟩)
      * P (ix2 ⟨b.val * 2048 + s.val, by omega⟩ ⟨2048 + (h.val * 256 + p.val * 128 + x.val), by omega⟩))
    * Ideal.ofBits FTy.f32 1035273459#32 - headSlope h * gap t.val s.val

/-- The second map's factor. -/
def lam (L : S4x128.Idx → EReal) : EReal :=
  Ideal.exp (∑ x : Fin 128, L (ix2 0 x) * L (ix2 1 x)) - Ideal.exp (∑ x : Fin 128, L (ix2 2 x) * L (ix2 3 x))
    + Ideal.ofBits FTy.f32 1055981900#32

/-- A head's output before its normalisation: the difference of two maps `p0` and `p1` on the values `v`. -/
def mixed (l : EReal) (p0 p1 : Fin 2048 → EReal) (v : Fin 2048 → Fin 256 → EReal) (x : Fin 256) : EReal :=
  ∑ s, (p0 s - l * p1 s) * v s x

/-- A head's normalised, weighted and gated output. -/
def gated (o w : Fin 256 → EReal) (g : EReal) (x : Fin 256) : EReal :=
  o x * Ideal.rsqrt (Ideal.div (∑ y, o y * o y) (Ideal.ofBits FTy.f32 1132462080#32) + Ideal.ofBits FTy.f32 897988541#32) * w x
    * Ideal.ofBits FTy.f32 1057455962#32 * (g * Ideal.logistic g)

theorem at52 (P : S8192x8192.Idx → EReal) (b : Fin 4) (h : Fin 8) (p : Fin 2) (t s : Fin 2048) :
    val_main_v52 (F := Ideal) P (ix5 b h p t s) = score P b h p t s := by
  pointwise [score, headSlope, gap, val_main_v52, val_main_v51, val_main_v50, val_main_v49, val_main_v48, val_main_v47, val_main_v46, val_main_v45, val_main_v35, val_main_v34, val_main_v33, val_main_v32, val_main_v31, val_main_v30, val_main_v29, val_main_v28, val_main_v27, val_main_cst_2, val_main_v26, val_main_v25, val_main_v23, val_main_v22, val_main_v3, val_main_v2, val_main_v1, val_main_v0]

theorem at53 (P : S8192x8192.Idx → EReal) (b : Fin 4) (h : Fin 8) (p : Fin 2) (t : Fin 2048) :
    val_main_v53 (F := Ideal) P (ix4 b h p t) = peak (score P b h p t) := by
  pointwise [val_main_v53, val_main_cst_11]
  rw [lowest]
  exact congrArg (fun f => Finset.fold max ⊥ f Finset.univ) (funext fun s => at52 P b h p t s)

theorem at54 (b : Fin 4) (h : Fin 8) (p : Fin 2) (t : Fin 2048) : val_main_v54 (F := Ideal) (ix4 b h p t) = (⊥ : EReal) := by
  rw [← lowest]
  pointwise [val_main_v54, val_main_cst_12]

/-- The larger of two arrays, at an index. -/
theorem max_at (A B : FVec Ideal S4x8x2x2048 .f32) (i : S4x8x2x2048.Idx) : maximumf A B i = (max (A i : EReal) (B i : EReal) : EReal) := rfl

theorem at55 (P : S8192x8192.Idx → EReal) (b : Fin 4) (h : Fin 8) (p : Fin 2) (t : Fin 2048) :
    val_main_v55 (F := Ideal) P (ix4 b h p t) = peak (score P b h p t) := by
  unfold val_main_v55
  refine (max_at _ _ _).trans ?_
  rw [at54, at53]
  exact max_eq_right bot_le

theorem at57 (P : S8192x8192.Idx → EReal) (b : Fin 4) (h : Fin 8) (p : Fin 2) (t s : Fin 2048) :
    val_main_v57 (F := Ideal) P (ix5 b h p t s) = val_main_v55 (F := Ideal) P (ix4 b h p t) := by
  pointwise [val_main_v57, val_main_v56]

theorem at59 (P : S8192x8192.Idx → EReal) (b : Fin 4) (h : Fin 8) (p : Fin 2) (t s : Fin 2048) :
    val_main_v59 (F := Ideal) P (ix5 b h p t s) = weight (score P b h p t) s := by
  pointwise [val_main_v59, val_main_v58]
  rw [at57, at55, at52]
  rfl

theorem at60 (P : S8192x8192.Idx → EReal) (b : Fin 4) (h : Fin 8) (p : Fin 2) (t  : Fin 2048) :
    val_main_v60 (F := Ideal) P (ix4 b h p t) = total (score P b h p t) := by
  pointwise [val_main_v60, val_main_cst_13]
  exact Finset.sum_congr rfl fun s _ => at59 P b h p t s

theorem at63 (P : S8192x8192.Idx → EReal) (b : Fin 4) (h : Fin 8) (p : Fin 2) (t s : Fin 2048) :
    val_main_v63 (F := Ideal) P (ix5 b h p t s) = soft (score P b h p t) s := by
  pointwise [val_main_v63, val_main_v62, val_main_v61]
  rw [at59, at60]
  rfl

theorem at21 (L : S4x128.Idx → EReal) : val_main_v21 (F := Ideal) L ix0 = lam L := by
  pointwise [lam, val_main_v21, val_main_v20, val_main_v19, val_main_v18, val_main_v17, val_main_v16, val_main_v15, val_main_v14, val_main_v13, val_main_v12, val_main_v11, val_main_v10, val_main_v9, val_main_v8, val_main_v7, val_main_v6, val_main_cst_1, val_main_cst, val_main_cst_0]

theorem at65 (P : S8192x8192.Idx → EReal) (b : Fin 4) (h : Fin 8) (t s : Fin 2048) :
    val_main_v65 (F := Ideal) P (ix4 b h t s) = soft (score P b h 0 t) s := by
  refine Eq.trans ?_ (at63 P b h 0 t s)
  unfold val_main_v65 val_main_v64
  generalize val_main_v63 (F := Ideal) P = A
  pointwise

theorem at67 (P : S8192x8192.Idx → EReal) (b : Fin 4) (h : Fin 8) (t s : Fin 2048) :
    val_main_v67 (F := Ideal) P (ix4 b h t s) = soft (score P b h 1 t) s := by
  refine Eq.trans ?_ (at63 P b h 1 t s)
  unfold val_main_v67 val_main_v66
  generalize val_main_v63 (F := Ideal) P = A
  pointwise

/-- One array less a multiple of another, at an index. -/
theorem sub_mul_at (A B C : FVec Ideal S4x8x2048x2048 .f32) (i : S4x8x2048x2048.Idx) :
    subf A (mulf B C) i = ((A i : EReal) - (B i : EReal) * (C i : EReal) : EReal) := rfl

theorem at68 (L : S4x128.Idx → EReal) (b : Fin 4) (h : Fin 8) (t s : Fin 2048) :
    val_main_v68 (F := Ideal) L (ix4 b h t s) = lam L := by
  refine Eq.trans ?_ (at21 L)
  pointwise [val_main_v68]

theorem at70 (P : S8192x8192.Idx → EReal) (L : S4x128.Idx → EReal) (b : Fin 4) (h : Fin 8) (t s : Fin 2048) :
    val_main_v70 (F := Ideal) P L (ix4 b h t s) = soft (score P b h 0 t) s - lam L * soft (score P b h 1 t) s := by
  unfold val_main_v70 val_main_v69
  refine (sub_mul_at _ _ _ _).trans ?_
  rw [at65, at67, at68]

/-- A head's values, from the projections. -/
def value (P : S8192x8192.Idx → EReal) (b : Fin 4) (h : Fin 8) (s : Fin 2048) (x : Fin 256) : EReal :=
  P (ix2 ⟨b.val * 2048 + s.val, by omega⟩ ⟨4096 + (h.val * 256 + x.val), by omega⟩)

theorem at72 (P : S8192x8192.Idx → EReal) (L : S4x128.Idx → EReal) (b : Fin 4) (h : Fin 8) (t : Fin 2048) (x : Fin 256) :
    val_main_v72 (F := Ideal) P L (ix4 b t h x)
      = mixed (lam L) (soft (score P b h 0 t)) (soft (score P b h 1 t)) (value P b h) x := by
  pointwise [val_main_v72, val_main_v71, val_main_v24, val_main_v4, val_main_v1, val_main_v0]
  refine Finset.sum_congr rfl fun s _ => ?_
  rw [at70]
  exact mul_comm _ _

/-- The reference's result at an index. -/
theorem at92 (P : S8192x8192.Idx → EReal) (L : S4x128.Idx → EReal) (W : S256.Idx → EReal) (r : Fin 8192) (c : Fin 2048)
    (b : Fin 4) (h : Fin 8) (t : Fin 2048) (x : Fin 256) (hr : r.val = b.val * 2048 + t.val) (hc : c.val = h.val * 256 + x.val) :
    val_main_v92 (F := Ideal) P L W (ix2 r c)
      = gated (mixed (lam L) (soft (score P b h 0 t)) (soft (score P b h 1 t)) (value P b h)) (fun y => W (ix1 y))
          (P (ix2 r ⟨6144 + c.val, by omega⟩)) x := by
  pointwise [Ideal.logistic, gated, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_cst_14, val_main_cst_15, val_main_cst_16, val_main_cst_17, val_main_call0_v0, val_main_call0_v1, val_main_call0_v2, val_main_call0_v3, val_main_call0_v4, val_main_call0_v5, val_main_call0_cst, val_main_call0_cst_0, val_main_v5, val_main_v1, val_main_v0]
  simp only [at72]
  have e0 : r.val / 2048 = b.val := by omega
  have e1 : r.val % 2048 = t.val := by omega
  have e2 : c.val / 256 = h.val := by omega
  have e3 : c.val % 256 = x.val := by omega
  simp only [e0, e1, e2, e3, Fin.eta]

end Cert.AttnCRefIdeal.Stage

end
-- ==== Proof.AttnC.lean ====
/- The differential attention of layer 3, from its projections. -/
module

public import proofs.«01_k».proof.Defs
public import proofs.«01_k».proof.Proof.Gen.AttnCIdeal.Value
public import proofs.«01_k».proof.Proof.AttnCSpec
public import proofs.«01_k».proof.Proof.Gen.Pre_finite_qk
public import Idealize.ShloMosaic.Lib.Pipeline.ValueKit
public import Idealize.ShloMosaic.Lib.Pipeline.Covers

@[expose] public section

set_option maxRecDepth 16384

noncomputable section

namespace Cert.AttnCIdeal.Array

open Cert.AttnCIdeal Cert.AttnCIdeal.Gen Idealize.ShloMosaic Idealize.ShloMosaic.TcCoe Idealize.SL.Sem
open Cert.Softmax Cert.AttnCRefIdeal.Stage

variable (m : (ℓ : Loc nD τ sig) → Buf (Elt Ideal) ℓ)

theorem places : ∀ t : Fin grid0.N, win0_0.index t = ![0] ∧ win0_1.index t = ![0, 0] ∧ win0_2.index t = ![0, 0]
    ∧ win0_3.index t = ![(grid0.coords t 0).val * 8 + (grid0.coords t 2).val, (grid0.coords t 1).val]
    ∧ win0_4.index t = ![(grid0.coords t 0).val, 8 + (grid0.coords t 1).val]
    ∧ win0_5.index t = ![(grid0.coords t 0).val, 16 + (grid0.coords t 1).val]
    ∧ win0_6.index t = ![(grid0.coords t 0).val * 8 + (grid0.coords t 2).val, 24 + (grid0.coords t 1).val]
    ∧ win0_7.index t = ![(grid0.coords t 0).val * 8 + (grid0.coords t 2).val, (grid0.coords t 1).val] := by
  decide +kernel

/-- A tile's distances: its rows begin at 256 times its number. -/
def far (i : grid0.Coords) (a s : ℕ) : EReal :=
  FloatOps.sitofp (F := Ideal) FTy.f32 (IntOp.absi (IntOp.subi (IntOp.addi (Scalar.muli (BitVec.ofNat 32 (i 2).val) 256#32) (BitVec.ofNat 32 a)) (BitVec.ofNat 32 s)))

/-- A tile's scores. -/
def near (i : grid0.Coords) (w : EReal) (q : S256x128.Idx → EReal) (k : S2048x128.Idx → EReal) (a : Fin 256) (s : Fin 2048) : EReal :=
  (∑ x : Fin 128, q (ix2 a x) * k (ix2 s x)) * Ideal.ofBits FTy.f32 1035273459#32 + (0 - w) * far i a s

theorem pay4 (i : grid0.Coords) (w : EReal) (q : S256x128.Idx → EReal) (k : S2048x128.Idx → EReal) (a : Fin 256) (s : Fin 2048) :
    k0_pay4 (F := Ideal) i w q k (ix2 a s) = weight (near i w q k a) s := by
  rw [weight, peak, ← lowest]
  pointwise [k0_pay4, k0_pay3, near, far]

theorem pay5 (i : grid0.Coords) (w : EReal) (q : S256x128.Idx → EReal) (k : S2048x128.Idx → EReal) (a : Fin 256) :
    k0_pay5 (F := Ideal) i w q k (ix2 a 0) = total (near i w q k a) := by
  pointwise [k0_pay5]
  exact Finset.sum_congr rfl fun s _ => pay4 i w q k a s

theorem pay2 (L : S4x128.Idx → EReal) : k0_pay2 (F := Ideal) L (ix2 0 0) = lam L := by
  pointwise [k0_pay2, lam]

theorem pay3 (i : grid0.Coords) (w : EReal) (a : Fin 256) (s : Fin 2048) :
    k0_pay3 (F := Ideal) i w (ix2 a s) = (0 - w) * far i a s := by
  pointwise [k0_pay3, far]

/-- A row's weights times the reciprocal of their sum. -/
def scaled (S : Fin 2048 → EReal) (s : Fin 2048) : EReal := weight S s * Ideal.div 1 (total S)

/-- What a grid point stores, from its blocks. -/
theorem block (i : grid0.Coords) (w : EReal) (L : S4x128.Idx → EReal) (q0 q1 : S256x128.Idx → EReal) (k0 k1 : S2048x128.Idx → EReal)
    (v : S2048x256.Idx → EReal) (W : S1x256.Idx → EReal) (g : S256x256.Idx → EReal) (a x : Fin 256) :
    k0_pay1 (F := Ideal) (k0_pay6 (F := Ideal) (k0_pay2 (F := Ideal) L) (k0_pay3 (F := Ideal) i w) (k0_pay4 (F := Ideal) i w q0 k0)
        (k0_pay5 (F := Ideal) i w q0 k0) q1 k1 v W) (FloatOps.ofBits FTy.f32 1057455962#32) g (ix2 a x)
      = gated (mixed (lam L) (scaled (near i w q0 k0 a)) (scaled (near i w q1 k1 a)) fun s y => v (ix2 s y)) (fun y => W (ix2 0 y))
          (g (ix2 a x)) x := by
  pointwise [k0_pay6, k0_pay1]
  simp only [pay2, pay3, pay4, pay5, lowest]
  rfl

/-- The slopes the call reads are the reference's. -/
theorem slopes (c : Dev nD) (t : Fin cfg0.grid.N) (h : Fin 8) : iblk m c 0 t (ix1 h) = headSlope h := by
  have e : (win0_0.blk t).view.emb (ix1 h) = ix1 h := by blk_ext [places t]
  have v : V m c main_cst (ix1 h) = headSlope h := by
    entry_read
    pointwise [headSlope, Cert.AttnCRefIdeal.Read.val_main_v44, Cert.AttnCRefIdeal.Read.val_main_v43, Cert.AttnCRefIdeal.Read.val_main_v42, Cert.AttnCRefIdeal.Read.val_main_v41, Cert.AttnCRefIdeal.Read.val_main_v40, Cert.AttnCRefIdeal.Read.val_main_v39, Cert.AttnCRefIdeal.Read.val_main_v38, Cert.AttnCRefIdeal.Read.val_main_v37, Cert.AttnCRefIdeal.Read.val_main_v36, Cert.AttnCRefIdeal.Read.val_main_cst_3, Cert.AttnCRefIdeal.Read.val_main_cst_4, Cert.AttnCRefIdeal.Read.val_main_cst_5, Cert.AttnCRefIdeal.Read.val_main_cst_6, Cert.AttnCRefIdeal.Read.val_main_cst_7, Cert.AttnCRefIdeal.Read.val_main_cst_8, Cert.AttnCRefIdeal.Read.val_main_cst_9, Cert.AttnCRefIdeal.Read.val_main_cst_10]
    fin_cases h
    all_goals rfl
  refine Eq.trans ?_ v
  exact congrArg (V m c main_cst) e

theorem far_eq (i : grid0.Coords) (a : Fin 256) (s t : ℕ) (ht : t = (i 2).val * 256 + a.val) : far i a.val s = gap t s := by
  subst ht
  have e : IntOp.addi (Scalar.muli (BitVec.ofNat 32 (i 2).val) 256#32) (BitVec.ofNat 32 a.val) = BitVec.ofNat 32 ((i 2).val * 256 + a.val) := by
    refine BitVec.eq_of_toNat_eq ?_
    simp [IntOp.addi, Scalar.muli, IntOp.muli, BitVec.toNat_add, BitVec.toNat_mul]
  rw [far, gap, e]

/-- A number's magnitude. -/
def magnitude (x : EReal) : EReal := max x (-x)

/-- The queries and keys are real numbers. -/
theorem real (c : Dev nD) (h : Cert.Pre_AttnCIdeal_finite_qk m) (r : Fin 8192) (k : Fin 8192) (hk : k.val < 4096) :
    IsReal (m ((c : Thread nD τ).loc main_arg0) (ix2 r k)) := by
  have e : Cert.Pre_finite_qk.fn (F := Ideal) (m ((c : Thread nD τ).loc main_arg0)) (m ((c : Thread nD τ).loc main_arg1)) (m ((c : Thread nD τ).loc main_arg2))
      (ix2 r ⟨k.val, hk⟩) = Ideal.cmp .olt (magnitude (m ((c : Thread nD τ).loc main_arg0) (ix2 r k))) (Ideal.ofBits .f32 0x7F800000#32) := by
    pointwise [Cert.Pre_finite_qk.fn, magnitude, Ideal.absf_def]
  rw [congrFun (h c), highest] at e
  exact isReal_of_below e.symm

theorem real_slope (n : Fin 8) : IsReal (headSlope n) := by
  rw [headSlope]
  pointwise [Cert.AttnCRefIdeal.Read.val_main_v44, Cert.AttnCRefIdeal.Read.val_main_v43, Cert.AttnCRefIdeal.Read.val_main_v42, Cert.AttnCRefIdeal.Read.val_main_v41, Cert.AttnCRefIdeal.Read.val_main_v40, Cert.AttnCRefIdeal.Read.val_main_v39, Cert.AttnCRefIdeal.Read.val_main_v38, Cert.AttnCRefIdeal.Read.val_main_v37, Cert.AttnCRefIdeal.Read.val_main_v36, Cert.AttnCRefIdeal.Read.val_main_cst_3, Cert.AttnCRefIdeal.Read.val_main_cst_4, Cert.AttnCRefIdeal.Read.val_main_cst_5, Cert.AttnCRefIdeal.Read.val_main_cst_6, Cert.AttnCRefIdeal.Read.val_main_cst_7, Cert.AttnCRefIdeal.Read.val_main_cst_8, Cert.AttnCRefIdeal.Read.val_main_cst_9, Cert.AttnCRefIdeal.Read.val_main_cst_10]
  split_ifs <;> refine ⟨?_, ?_⟩ <;> simp [Ideal.ofBits, Ideal.ieee, -EReal.coe_mul]

/-- Scores of real queries and keys are real numbers. -/
theorem real_score (c : Dev nD) (h : Cert.Pre_AttnCIdeal_finite_qk m) (b : Fin 4) (n : Fin 8) (p : Fin 2) (t s : Fin 2048) :
    IsReal (score (m ((c : Thread nD τ).loc main_arg0)) b n p t s) := by
  refine IsReal.sub (IsReal.mul (IsReal.sum fun x => IsReal.mul (real m c h _ _ (by simp only; omega)) (real m c h _ _ (by simp only; omega))) ?_) (IsReal.mul (real_slope n) (IsReal.coe _))
  refine ⟨?_, ?_⟩ <;> simp [Ideal.ofBits, Ideal.ieee, -EReal.coe_mul]

/-- A tile's scores are the reference's. -/
theorem near_eq (P : S8192x8192.Idx → EReal) (i : grid0.Coords) (q : S256x128.Idx → EReal) (k : S2048x128.Idx → EReal) (a : Fin 256)
    (b : Fin 4) (n : Fin 8) (p : Fin 2) (t : Fin 2048) (ht : t.val = (i 2).val * 256 + a.val)
    (hq : ∀ x : Fin 128, q (ix2 a x) = P (ix2 ⟨b.val * 2048 + t.val, by omega⟩ ⟨n.val * 256 + p.val * 128 + x.val, by omega⟩))
    (hk : ∀ (s : Fin 2048) (x : Fin 128), k (ix2 s x) = P (ix2 ⟨b.val * 2048 + s.val, by omega⟩ ⟨2048 + (n.val * 256 + p.val * 128 + x.val), by omega⟩)) :
    near i (headSlope n) q k a = score P b n p t := by
  funext s
  rw [near, score, far_eq i a s.val t.val ht, zero_sub, EReal.neg_mul, ← sub_eq_add_neg]
  simp only [hq, hk]

/-- The slope a grid point loads. -/
theorem loaded (c : Dev nD) (t : Fin cfg0.grid.N) (n : Fin 8) (hn : n.val = (grid0.coords t 1).val) (h)
    (h0 : 0 < (Rect.unit (s := S8) (k0_off1 (grid0.coords t)) ![1] h).shape.numel) :
    View.ld (iblk m c 0 t) (Rect.unit (k0_off1 (grid0.coords t)) ![1] h) (Shape.Idx.first h0) = headSlope n := by
  refine Eq.trans ?_ (slopes m c t n)
  refine congrArg (iblk m c 0 t) ?_
  have z : (Shape.Idx.first h0 0).val < 1 := (Shape.Idx.first h0 0).isLt
  have hi1 : (grid0.coords t 1).val < 8 := (grid0.coords t 1).isLt
  have o : k0_off1 (grid0.coords t) 0 = (grid0.coords t 1).val := by
    exact (by decide : ∀ a : Fin 8, (Scalar.indexCast (BitVec.ofNat 32 a.val)).toNat = a.val) ⟨(grid0.coords t 1).val, hi1⟩
  funext a
  fin_cases a
  refine Fin.ext ?_
  show k0_off1 (grid0.coords t) 0 + 1 * (Shape.Idx.first h0 0).val = n.val
  omega

theorem array (c : Dev nD) (h : Cert.Pre_AttnCIdeal_finite_qk m) : (dats m 0 c).arrAt 7 cfg0.N =
    Cert.AttnCRefIdeal.Read.val_main_v92 (F := Ideal) (m ((c : Thread nD τ).loc main_arg0)) (m ((c : Thread nD τ).loc main_arg1))
      (m ((c : Thread nD τ).loc main_arg2)) := by
  refine (dats m 0 c).arrAt_eq_of_covers 7 _ (by decide +kernel) fun t hf y => ?_
  blk_simp
  rw [after0_7, outsAt0]
  frame_out
  idx_vars y
  have hi0 : (grid0.coords t 0).val < 4 := (grid0.coords t 0).isLt
  have hi1 : (grid0.coords t 1).val < 8 := (grid0.coords t 1).isLt
  have hi2 : (grid0.coords t 2).val < 8 := (grid0.coords t 2).isLt
  refine (block _ _ _ _ _ _ _ _ _ _ y0 y1).trans ?_
  have e : ((View.whole main_v1).slice (win0_7.rect t)).emb (ix2 y0 y1)
      = ix2 (⟨((grid0.coords t 0).val * 8 + (grid0.coords t 2).val) * 256 + y0.val, by omega⟩ : Fin 8192) (⟨(grid0.coords t 1).val * 256 + y1.val, by omega⟩ : Fin 2048) := by
    blk_ext [places t]
  rw [e, at92 _ _ _ _ _ ⟨(grid0.coords t 0).val, hi0⟩ ⟨(grid0.coords t 1).val, hi1⟩ ⟨(grid0.coords t 2).val * 256 + y0.val, by omega⟩ y1 (by simp only; omega) (by simp only)]
  rw [loaded m c t ⟨(grid0.coords t 1).val, hi1⟩ rfl]
  rw [near_eq (m ((c : Thread nD τ).loc main_arg0)) (grid0.coords t) _ _ y0 ⟨(grid0.coords t 0).val, hi0⟩ ⟨(grid0.coords t 1).val, hi1⟩ 0 ⟨(grid0.coords t 2).val * 256 + y0.val, by omega⟩ rfl
    (fun x => by pointwise; blk_ext [iblk, V, places t]) (fun s x => by pointwise; blk_ext [iblk, V, places t])]
  rw [near_eq (m ((c : Thread nD τ).loc main_arg0)) (grid0.coords t) _ _ y0 ⟨(grid0.coords t 0).val, hi0⟩ ⟨(grid0.coords t 1).val, hi1⟩ 1 ⟨(grid0.coords t 2).val * 256 + y0.val, by omega⟩ rfl
    (fun x => by pointwise; blk_ext [iblk, V, places t]) (fun s x => by pointwise; blk_ext [iblk, V, places t])]
  unfold scaled
  rw [weight_mul_recip _ 0 (real_score m c h _ _ _ _), weight_mul_recip _ 0 (real_score m c h _ _ _ _)]
  have el : (iblk m c 1 t : S4x128.Idx → EReal) = m ((c : Thread nD τ).loc main_arg1) := by
    funext y
    idx_vars y
    blk_ext [iblk, V, places t]
  have ev : (fun (s : Fin 2048) (y : Fin 256) => (iblk m c 5 t (ix2 s y) : EReal)) = value (m ((c : Thread nD τ).loc main_arg0)) ⟨(grid0.coords t 0).val, hi0⟩ ⟨(grid0.coords t 1).val, hi1⟩ := by
    funext s y
    unfold value
    blk_ext [iblk, V, places t]
  have ew : (fun y : Fin 256 => (iblk m c 2 t (ix2 0 y) : EReal)) = fun y => m ((c : Thread nD τ).loc main_arg2) (ix1 y) := by
    funext y
    blk_ext! [iblk, V, places t]
  have eg : (iblk m c 6 t (ix2 y0 y1) : EReal) = m ((c : Thread nD τ).loc main_arg0) (ix2 ⟨((grid0.coords t 0).val * 8 + (grid0.coords t 2).val) * 256 + y0.val, by omega⟩
          ⟨6144 + ((grid0.coords t 1).val * 256 + y1.val), by omega⟩) := by
    blk_ext [iblk, V, places t]
  rw [el, ev, ew, eg]

/-- The call and the reference's lines end with the same arrays, on every device, from real queries and keys. -/
theorem algebraic : Cert.algebraic_AttnCIdeal_AttnCRefIdeal_pre_finite_qk := by
  intro m g m' g' hp h
  refine ⟨fun c => (dats m 0 c).arrAt 7 cfg0.N, Value.run_blocks m g, ?_⟩
  refine (θ_run _ _ _).mono (fun r hr c => ?_) (Cert.AttnCRefIdeal.Value.run m' g')
  obtain ⟨r0, hkept⟩ := hr c
  obtain ⟨h0, h1, h2⟩ := h c
  refine ⟨?_, hkept⟩
  refine r0.trans ((Cert.AttnCRefIdeal.Read.val_main_v92_eq m' c).trans (Eq.trans ?_ (array m c hp).symm))
  rw [h0, h1, h2]

end Cert.AttnCIdeal.Array

end
-- ==== Proof.Window.lean ====
/- The softmax of a row of scores with a sink, over a window of the scores that holds all those above minus infinity. -/
module

public import proofs.«01_k».proof.Proof.Softmax

@[expose] public section

noncomputable section

namespace Cert.Softmax

open Idealize.ShloMosaic

/-- The largest of a row's scores and its sink. -/
def roof {n : ℕ} (S : Fin n → EReal) (z : EReal) : EReal := max (peak S) z

/-- The weight of a score beside a sink, before the division. -/
def sinkWeight {n : ℕ} (S : Fin n → EReal) (z : EReal) (s : Fin n) : EReal := Ideal.exp (S s - roof S z)

/-- The sum of a row's weights and its sink's. -/
def sinkTotal {n : ℕ} (S : Fin n → EReal) (z : EReal) : EReal := (∑ s, sinkWeight S z s) + Ideal.exp (z - roof S z)

/-- The values mixed by the weights, divided at the end. -/
def sinkMix {n : ℕ} (S : Fin n → EReal) (z : EReal) (v : Fin n → EReal) : EReal :=
  Ideal.div (∑ s, sinkWeight S z s * v s) (sinkTotal S z)

/-- A row of scores followed by its sink. -/
def joined {n : ℕ} (S : Fin n → EReal) (z : EReal) (s : Fin (n + 1)) : EReal := if h : s.val < n then S ⟨s.val, h⟩ else z

theorem joined_cast {n : ℕ} (S : Fin n → EReal) (z : EReal) (s : Fin n) : joined S z s.castSucc = S s := by
  simp [joined]

theorem joined_last {n : ℕ} (S : Fin n → EReal) (z : EReal) : joined S z (Fin.last n) = z := by
  simp [joined]

theorem peak_joined {n : ℕ} (S : Fin n → EReal) (z : EReal) : peak (joined S z) = roof S z := by
  refine le_antisymm ?_ (max_le ?_ ?_)
  · obtain ⟨s, hs⟩ := peak_mem (joined S z) (Fin.last n)
    rw [hs]
    refine Fin.lastCases ?_ (fun i => ?_) s
    · rw [joined_last]; exact le_max_right _ _
    · rw [joined_cast]; exact (le_peak S i).trans (le_max_left _ _)
  · refine (Finset.fold_max_le _).2 ⟨bot_le, fun i _ => ?_⟩
    rw [← joined_cast S z i]
    exact le_peak _ _
  · conv_lhs => rw [← joined_last S z]
    exact le_peak _ _

theorem weight_joined {n : ℕ} (S : Fin n → EReal) (z : EReal) (s : Fin n) : weight (joined S z) s.castSucc = sinkWeight S z s := by
  rw [weight, peak_joined, joined_cast, sinkWeight]

theorem total_joined {n : ℕ} (S : Fin n → EReal) (z : EReal) : total (joined S z) = sinkTotal S z := by
  rw [total, Fin.sum_univ_castSucc, sinkTotal]
  simp only [weight_joined]
  rw [weight, peak_joined, joined_last]

/-- With a real sink and no score at infinity the weights sum to more than zero. -/
theorem sinkTotal_pos {n : ℕ} (S : Fin n → EReal) (z : EReal) (hz : IsReal z) (h : ∀ s, S s ≠ ⊤) : 0 < sinkTotal S z := by
  rw [← total_joined]
  refine total_pos _ (Fin.last n) ⟨?_, ?_⟩
  · obtain ⟨s, hs⟩ := peak_mem (joined S z) (Fin.last n)
    rw [hs]
    refine Fin.lastCases ?_ (fun i => ?_) s
    · rw [joined_last]; exact hz.1
    · rw [joined_cast]; exact h i
  · intro e
    have := le_peak (joined S z) (Fin.last n)
    rw [joined_last, e] at this
    exact hz.2 (le_bot_iff.1 this)

/-- Dividing at the end is dividing every weight. -/
theorem sinkMix_eq {n : ℕ} (S : Fin n → EReal) (z : EReal) (v : Fin n → EReal) (hz : IsReal z) (h : ∀ s, S s ≠ ⊤) :
    sinkMix S z v = ∑ s, v s * soft (joined S z) s.castSucc := by
  have h0 := sinkTotal_pos S z hz h
  rw [sinkMix, div_sum _ h0]
  refine Finset.sum_congr rfl fun s _ => ?_
  rw [soft, weight_joined, total_joined]
  simp only [Ideal.div, h0.ne', if_false]
  rw [mul_comm (sinkWeight S z s), mul_assoc]

theorem bot_less (x : EReal) : (⊥ : EReal) - x = ⊥ := by
  rw [sub_eq_add_neg, EReal.bot_add]

/-- Two sums are one when their terms pair off and those without a partner are zero. -/
theorem sum_partners {n k : ℕ} (r : Fin k → Fin n → Prop) (F : Fin k → EReal) (G : Fin n → EReal)
    (inj : ∀ a a' s, r a s → r a' s → a = a') (fn : ∀ a s s', r a s → r a s' → s = s')
    (eq : ∀ a s, r a s → F a = G s) (hF : ∀ a, (∀ s, ¬ r a s) → F a = 0) (hG : ∀ s, (∀ a, ¬ r a s) → G s = 0) :
    ∑ a, F a = ∑ s, G s := by
  have ex : ∀ a, F a ≠ 0 → ∃ s, r a s := fun a h => by
    by_contra c
    exact h (hF a fun s hs => c ⟨s, hs⟩)
  refine Finset.sum_bij_ne_zero (fun a _ h => (ex a h).choose) (fun _ _ _ => Finset.mem_univ _) ?_ ?_ ?_
  · intro a _ h a' _ h' e
    have e1 := (ex a h).choose_spec
    have e2 := (ex a' h').choose_spec
    rw [← show (ex a h).choose = (ex a' h').choose from e] at e2
    exact inj _ _ _ e1 e2
  · intro s _ h
    have : ∃ a, r a s := by
      by_contra c
      exact h (hG s fun a ha => c ⟨a, ha⟩)
    obtain ⟨a, ha⟩ := this
    have ne : F a ≠ 0 := by rw [eq a s ha]; exact h
    exact ⟨a, Finset.mem_univ _, ne, fn _ _ _ (ex a ne).choose_spec ha⟩
  · intro a _ h
    exact eq _ _ (ex a h).choose_spec

/-- Two rows whose scores pair off, those without a partner at minus infinity, mix alike. -/
theorem sinkMix_partners {n k : ℕ} (r : Fin k → Fin n → Prop) (K : Fin k → EReal) (S : Fin n → EReal) (z : EReal)
    (V : Fin k → EReal) (W : Fin n → EReal) (a0 : Fin k) (s0 : Fin n)
    (inj : ∀ a a' s, r a s → r a' s → a = a') (fn : ∀ a s s', r a s → r a s' → s = s')
    (eq : ∀ a s, r a s → K a = S s) (eqv : ∀ a s, r a s → V a = W s)
    (hK : ∀ a, (∀ s, ¬ r a s) → K a = ⊥) (hS : ∀ s, (∀ a, ¬ r a s) → S s = ⊥) : sinkMix K z V = sinkMix S z W := by
  have top : peak K = peak S := by
    refine le_antisymm ?_ ?_
    · obtain ⟨a, ha⟩ := peak_mem K a0
      rw [ha]
      by_cases h : ∃ s, r a s
      · obtain ⟨s, hs⟩ := h
        rw [eq a s hs]; exact le_peak S s
      · rw [hK a fun s hs => h ⟨s, hs⟩]; exact bot_le
    · obtain ⟨s, hs⟩ := peak_mem S s0
      rw [hs]
      by_cases h : ∃ a, r a s
      · obtain ⟨a, ha⟩ := h
        rw [← eq a s ha]; exact le_peak K a
      · rw [hS s fun a ha => h ⟨a, ha⟩]; exact bot_le
  have rf : roof K z = roof S z := by rw [roof, roof, top]
  have none : ∀ x, Ideal.exp ((⊥ : EReal) - x) = 0 := fun x => by rw [bot_less]; simp
  have sums : ∑ a, sinkWeight K z a = ∑ s, sinkWeight S z s := by
    refine sum_partners r _ _ inj fn (fun a s h => ?_) (fun a h => ?_) (fun s h => ?_)
    · rw [sinkWeight, sinkWeight, rf, eq a s h]
    · rw [sinkWeight, hK a h, none]
    · rw [sinkWeight, hS s h, none]
  have mixes : ∑ a, sinkWeight K z a * V a = ∑ s, sinkWeight S z s * W s := by
    refine sum_partners r _ _ inj fn (fun a s h => ?_) (fun a h => ?_) (fun s h => ?_)
    · rw [sinkWeight, sinkWeight, rf, eq a s h, eqv a s h]
    · rw [sinkWeight, hK a h, none, zero_mul]
    · rw [sinkWeight, hS s h, none, zero_mul]
  rw [sinkMix, sinkMix, sinkTotal, sinkTotal, mixes, sums, rf]

end Cert.Softmax

end
-- ==== Proof.AttnASpec.lean ====
/- The lines of the windowed attention's reference, read at an index. -/
module

public import proofs.«01_k».proof.Defs
public import proofs.«01_k».proof.Proof.Gen.AttnARefIdeal.Read
public import proofs.«01_k».proof.Proof.Window
public import Idealize.ShloMosaic.Lib.Pipeline.ValueKit

@[expose] public section

set_option maxRecDepth 16384

noncomputable section

namespace Cert.AttnARefIdeal.Stage

open Cert.AttnARefIdeal Cert.AttnARefIdeal.Gen Idealize.ShloMosaic Idealize.ShloMosaic.TcCoe Idealize.SL.Sem Cert.AttnARefIdeal.Read Cert.Softmax

/-- The slope of a head's distance term. -/
def headSlope (h : Fin 16) : EReal := val_main_v36 (F := Ideal) (ix1 h)

/-- The distance of a query's and a key's positions. -/
def gap (t s : ℕ) : EReal :=
  FloatOps.sitofp (F := Ideal) FTy.f32 (IntOp.absi (IntOp.subi (BitVec.ofNat 32 t) (BitVec.ofNat 32 s)))

/-- Whether a key is in a query's window. -/
def inside (t s : ℕ) : BitVec 1 :=
  IntOp.cmpi CmpIPredicate.sle (IntOp.absi (IntOp.subi (BitVec.ofNat 32 t) (BitVec.ofNat 32 s))) 128#32

/-- A query's column among the projections. -/
def queryAt (P : S8192x5120.Idx → EReal) (b h g : Fin 4) (t : Fin 2048) (x : Fin 128) : EReal :=
  P (ix2 ⟨b.val * 2048 + t.val, by omega⟩ ⟨2048 + (h.val * 512 + g.val * 128 + x.val), by omega⟩)

/-- A key's. -/
def keyAt (P : S8192x5120.Idx → EReal) (b h : Fin 4) (s : Fin 2048) (x : Fin 128) : EReal :=
  P (ix2 ⟨b.val * 2048 + s.val, by omega⟩ ⟨4096 + (h.val * 128 + x.val), by omega⟩)

/-- A value's. -/
def valueAt (P : S8192x5120.Idx → EReal) (b h : Fin 4) (x : Fin 128) (s : Fin 2048) : EReal :=
  P (ix2 ⟨b.val * 2048 + s.val, by omega⟩ ⟨4608 + (h.val * 128 + x.val), by omega⟩)

/-- The score of query `t` and key `s` of batch `b`, for query head `4 * h + g`. -/
def score (P : S8192x5120.Idx → EReal) (b h g : Fin 4) (t s : Fin 2048) : EReal :=
  Scalar.select (inside t.val s.val)
    ((∑ x : Fin 128, keyAt P b h s x * queryAt P b h g t x) * Ideal.ofBits FTy.f32 1035273459#32
      + -headSlope ⟨h.val * 4 + g.val, by omega⟩ * gap t.val s.val) ⊥

/-- A head's gated output. -/
def gated (o g : EReal) : EReal := o * (g * Ideal.logistic g)

theorem at45 (h g : Fin 4) (t s : Fin 2048) :
    val_main_v45 (F := Ideal) (ix4 h g t s) = -headSlope ⟨h.val * 4 + g.val, by omega⟩ * gap t.val s.val := by
  pointwise [headSlope, gap, val_main_v45, val_main_v44, val_main_v43, val_main_v42, val_main_v41, val_main_v40, val_main_v39, val_main_v38, val_main_v37, val_main_v19, val_main_v18, val_main_v17, val_main_v16, val_main_v15, val_main_v14, val_main_v13]

theorem at53 (P : S8192x5120.Idx → EReal) (b h g : Fin 4) (t s : Fin 2048) :
    val_main_v53 (F := Ideal) P (ix5 b h g t s) = score P b h g t s := by
  rw [score, ← lowest, ← at45]
  pointwise [inside, keyAt, queryAt, val_main_v53, val_main_call0_v2, val_main_call0_v1, val_main_call0_v0, val_main_cst_16, val_main_v52, val_main_v51, val_main_v50, val_main_c, val_main_v49, val_main_v48, val_main_v47, val_main_v46, val_main_v19, val_main_v18, val_main_v17, val_main_v16, val_main_v15, val_main_v14, val_main_v13, val_main_v12, val_main_v11, val_main_cst, val_main_v10, val_main_v9, val_main_v7, val_main_v6, val_main_v4, val_main_v3, val_main_v1, val_main_v0]
  rfl

/-- A row of the reference's scores, its sink at the end. -/
def row (P : S8192x5120.Idx → EReal) (Z : S16.Idx → EReal) (b h g : Fin 4) (t : Fin 2048) : Fin 2049 → EReal :=
  joined (score P b h g t) (Z (ix1 ⟨h.val * 4 + g.val, by omega⟩))

theorem at57 (P : S8192x5120.Idx → EReal) (Z : S16.Idx → EReal) (b h g : Fin 4) (t : Fin 2048) (s : Fin 2049) :
    val_main_v57 (F := Ideal) P Z (ix5 b h g t s) = row P Z b h g t s := by
  pointwise [val_main_v57, val_main_v56, val_main_v55, val_main_v54]
  simp only [at53]
  rfl

theorem at58 (P : S8192x5120.Idx → EReal) (Z : S16.Idx → EReal) (b h g : Fin 4) (t : Fin 2048) :
    val_main_v58 (F := Ideal) P Z (ix4 b h g t) = peak (row P Z b h g t) := by
  pointwise [val_main_v58, val_main_cst_17]
  rw [lowest]
  exact congrArg (fun f => Finset.fold max ⊥ f Finset.univ) (funext fun s => at57 P Z b h g t s)

theorem at59 (b h g : Fin 4) (t : Fin 2048) : val_main_v59 (F := Ideal) (ix4 b h g t) = (⊥ : EReal) := by
  rw [← lowest]
  pointwise [val_main_v59, val_main_cst_18]

/-- The larger of two arrays, at an index. -/
theorem max_at (A B : FVec Ideal S4x4x4x2048 .f32) (i : S4x4x4x2048.Idx) : maximumf A B i = (max (A i : EReal) (B i : EReal) : EReal) := rfl

theorem at60 (P : S8192x5120.Idx → EReal) (Z : S16.Idx → EReal) (b h g : Fin 4) (t : Fin 2048) :
    val_main_v60 (F := Ideal) P Z (ix4 b h g t) = peak (row P Z b h g t) := by
  unfold val_main_v60
  refine (max_at _ _ _).trans ?_
  rw [at59, at58]
  exact max_eq_right bot_le

theorem at62 (P : S8192x5120.Idx → EReal) (Z : S16.Idx → EReal) (b h g : Fin 4) (t : Fin 2048) (s : Fin 2049) :
    val_main_v62 (F := Ideal) P Z (ix5 b h g t s) = val_main_v60 (F := Ideal) P Z (ix4 b h g t) := by
  unfold val_main_v62 val_main_v61
  generalize val_main_v60 (F := Ideal) P Z = A
  pointwise

/-- The exponential of a difference of arrays, at an index. -/
theorem exp_sub_at (A B : FVec Ideal S4x4x4x2048x2049 .f32) (i : S4x4x4x2048x2049.Idx) :
    Host.exp (subf A B) i = (Ideal.exp ((A i : EReal) - (B i : EReal)) : EReal) := rfl

theorem at64 (P : S8192x5120.Idx → EReal) (Z : S16.Idx → EReal) (b h g : Fin 4) (t : Fin 2048) (s : Fin 2049) :
    val_main_v64 (F := Ideal) P Z (ix5 b h g t s) = weight (row P Z b h g t) s := by
  unfold val_main_v64 val_main_v63
  refine (exp_sub_at _ _ _).trans ?_
  rw [at62, at60, at57]
  rfl

theorem at65 (P : S8192x5120.Idx → EReal) (Z : S16.Idx → EReal) (b h g : Fin 4) (t : Fin 2048) :
    val_main_v65 (F := Ideal) P Z (ix4 b h g t) = total (row P Z b h g t) := by
  pointwise [val_main_v65, val_main_cst_19]
  exact Finset.sum_congr rfl fun s _ => at64 P Z b h g t s

theorem at67 (P : S8192x5120.Idx → EReal) (Z : S16.Idx → EReal) (b h g : Fin 4) (t : Fin 2048) (s : Fin 2049) :
    val_main_v67 (F := Ideal) P Z (ix5 b h g t s) = val_main_v65 (F := Ideal) P Z (ix4 b h g t) := by
  unfold val_main_v67 val_main_v66
  generalize val_main_v65 (F := Ideal) P Z = A
  pointwise

/-- A quotient of arrays, at an index. -/
theorem div_at (A B : FVec Ideal S4x4x4x2048x2049 .f32) (i : S4x4x4x2048x2049.Idx) :
    Host.divf A B i = (Ideal.div (A i : EReal) (B i : EReal) : EReal) := rfl

theorem at68 (P : S8192x5120.Idx → EReal) (Z : S16.Idx → EReal) (b h g : Fin 4) (t : Fin 2048) (s : Fin 2049) :
    val_main_v68 (F := Ideal) P Z (ix5 b h g t s) = soft (row P Z b h g t) s := by
  unfold val_main_v68
  refine (div_at _ _ _).trans ?_
  rw [at64, at67, at65]
  rfl

theorem at69 (P : S8192x5120.Idx → EReal) (Z : S16.Idx → EReal) (b h g : Fin 4) (t s : Fin 2048) :
    val_main_v69 (F := Ideal) P Z (ix5 b h g t s) = soft (row P Z b h g t) s.castSucc := by
  refine Eq.trans ?_ (at68 P Z b h g t s.castSucc)
  unfold val_main_v69
  generalize val_main_v68 (F := Ideal) P Z = A
  pointwise
  rfl

theorem at71 (P : S8192x5120.Idx → EReal) (Z : S16.Idx → EReal) (b h g : Fin 4) (t : Fin 2048) (x : Fin 128) :
    val_main_v71 (F := Ideal) P Z (ix5 b t h g x) = ∑ s : Fin 2048, valueAt P b h x s * soft (row P Z b h g t) s.castSucc := by
  pointwise [valueAt, val_main_v71, val_main_v70, val_main_v8, val_main_v5, val_main_v1, val_main_v0]
  refine Finset.sum_congr rfl fun s _ => ?_
  rw [at69]

/-- The reference's result at an index. -/
theorem at76 (P : S8192x5120.Idx → EReal) (Z : S16.Idx → EReal) (r : Fin 8192) (c : Fin 2048)
    (b h g : Fin 4) (t : Fin 2048) (x : Fin 128) (hr : r.val = b.val * 2048 + t.val) (hc : c.val = h.val * 512 + g.val * 128 + x.val) :
    val_main_v76 (F := Ideal) P Z (ix2 r c)
      = gated (∑ s : Fin 2048, valueAt P b h x s * soft (row P Z b h g t) s.castSucc) (P (ix2 r ⟨c.val, by omega⟩)) := by
  pointwise [Ideal.logistic, gated, val_main_v76, val_main_v75, val_main_v74, val_main_v73, val_main_v72, val_main_call1_v5, val_main_call1_v4, val_main_call1_v3, val_main_call1_v2, val_main_call1_v1, val_main_call1_v0, val_main_call1_cst, val_main_call1_cst_0, val_main_v2, val_main_v1, val_main_v0]
  simp only [at71]
  have e0 : r.val / 2048 = b.val := by omega
  have e1 : r.val % 2048 = t.val := by omega
  have e2 : c.val / 512 = h.val := by omega
  have e3 : c.val / 128 % 4 = g.val := by omega
  have e4 : c.val % 128 = x.val := by omega
  simp only [e0, e1, e2, e3, e4, Fin.eta]

end Cert.AttnARefIdeal.Stage

end
-- ==== Proof.AttnAHeads.lean ====
/- The windowed attention with a sink of layers 0 and 2, from its projections: what a grid point stores. -/
module

public import proofs.«01_k».proof.Defs
public import proofs.«01_k».proof.Proof.Gen.AttnAIdeal.Value
public import proofs.«01_k».proof.Proof.AttnASpec
public import Idealize.ShloMosaic.Lib.Pipeline.ValueKit

@[expose] public section

set_option maxRecDepth 16384

noncomputable section

namespace Cert.AttnAIdeal.Array

open Cert.AttnAIdeal Cert.AttnAIdeal.Gen Idealize.ShloMosaic Idealize.ShloMosaic.TcCoe Idealize.SL.Sem
open Cert.Softmax Cert.AttnARefIdeal.Stage

/-- The distance of a tile's row and a key of its window, which begins 128 keys before the tile. -/
def far (a s : ℕ) : EReal :=
  FloatOps.sitofp (F := Ideal) FTy.f32 (IntOp.absi (IntOp.subi (IntOp.addi (BitVec.ofNat 32 a) 128#32) (BitVec.ofNat 32 s)))

/-- The position of a key of the window, as the call counts it. -/
def spot (i : grid0.Coords) (s : ℕ) : BitVec 32 :=
  IntOp.addi (Scalar.subi (Scalar.muli (BitVec.ofNat 32 (i 1).val) 256#32) 128#32) (BitVec.ofNat 32 s)

/-- Whether a tile's row sees a key of the window. -/
def seen (i : grid0.Coords) (a s : ℕ) : BitVec 1 :=
  IntOp.andi
    (IntOp.andi
      (IntOp.cmpi CmpIPredicate.sle (IntOp.absi (IntOp.subi (IntOp.addi (BitVec.ofNat 32 a) 128#32) (BitVec.ofNat 32 s))) 128#32)
      (IntOp.cmpi CmpIPredicate.sge (spot i s) 0#32))
    (IntOp.cmpi CmpIPredicate.slt (spot i s) 2048#32)

/-- A tile's scores, for a head of slope `w`. -/
def near (i : grid0.Coords) (w : BitVec 32) (q : S256x128.Idx → EReal) (K : S512x128.Idx → EReal) (a : Fin 256) (s : Fin 512) : EReal :=
  (∑ x : Fin 128, q (ix2 a x) * K (ix2 s x)) * Ideal.ofBits FTy.f32 1035273459#32
    + Scalar.select (seen i a.val s.val) (Ideal.ofBits FTy.f32 w * far a.val s.val) (Named.named (F := Ideal) κ "mask" 0xF149F2CA#32)

/-- What a head's tile holds. -/
def tile (i : grid0.Coords) (w : BitVec 32) (q : S256x128.Idx → EReal) (K V : S512x128.Idx → EReal) (z : EReal) (g : S256x128.Idx → EReal)
    (a : Fin 256) (x : Fin 128) : EReal :=
  gated (sinkMix (near i w q K a) z fun s => V (ix2 s x)) (g (ix2 a x))

theorem head0 (i : grid0.Coords) (A : S128x128.Idx → EReal) (B : S256x128.Idx → EReal) (C : S128x128.Idx → EReal) (V : S512x128.Idx → EReal) (q g : S256x128.Idx → EReal) (z : EReal) (a : Fin 256) (x : Fin 128) :
    k0_pay9 (F := Ideal) (k0_pay3 i) V (k0_pay7 (F := Ideal) A B C q) (k0_pay8 (F := Ideal)) (Named.named κ "mask" 0xF149F2CA#32) z g (ix2 a x) = tile i 3207922931#32 q (k0_pay5 (F := Ideal) A B C) V z g a x := by
  simp only [tile, gated, sinkMix, sinkTotal, sinkWeight, roof, peak, ← lowest]
  pointwise [k0_pay9, k0_pay7, k0_pay8, k0_pay4, k0_pay3, k0_pay2, near, far, seen, spot]

theorem head1 (i : grid0.Coords) (K : S512x128.Idx → EReal) (V : S512x128.Idx → EReal) (q g : S256x128.Idx → EReal) (z : EReal) (a : Fin 256) (x : Fin 128) :
    k0_pay13 (F := Ideal) V (k0_pay10 (F := Ideal) (k0_pay3 i) (k0_pay4 (F := Ideal)) K q) z (k0_pay11 (F := Ideal) (k0_pay3 i) (k0_pay4 (F := Ideal)) K q z) (k0_pay12 (F := Ideal) (k0_pay3 i) (k0_pay4 (F := Ideal)) K q z) g (ix2 a x) = tile i 3204448256#32 q K V z g a x := by
  simp only [tile, gated, sinkMix, sinkTotal, sinkWeight, roof, peak, ← lowest]
  pointwise [k0_pay13, k0_pay12, k0_pay11, k0_pay10, k0_pay4, k0_pay3, k0_pay2, near, far, seen, spot]

theorem head2 (i : grid0.Coords) (K : S512x128.Idx → EReal) (V : S512x128.Idx → EReal) (q g : S256x128.Idx → EReal) (z : EReal) (a : Fin 256) (x : Fin 128) :
    k0_pay19 (F := Ideal) V (k0_pay17 (F := Ideal) (k0_pay3 i) (k0_pay4 (F := Ideal)) K q z) (k0_pay18 (F := Ideal) (k0_pay3 i) (k0_pay4 (F := Ideal)) K q z) (constant S256x128 FTy.f32 0#32) g (ix2 a x) = tile i 3199534323#32 q K V z g a x := by
  simp only [tile, gated, sinkMix, sinkTotal, sinkWeight, roof, peak, ← lowest]
  pointwise [k0_pay19, k0_pay18, k0_pay17, k0_pay16, k0_pay15, k0_pay14, k0_pay4, k0_pay3, k0_pay2, near, far, seen, spot]

theorem head3 (i : grid0.Coords) (K : S512x128.Idx → EReal) (V : S512x128.Idx → EReal) (q g : S256x128.Idx → EReal) (z : EReal) (a : Fin 256) (x : Fin 128) :
    k0_pay20 (F := Ideal) (k0_pay3 i) (k0_pay4 (F := Ideal)) K V q z g (ix2 a x) = tile i 3196059648#32 q K V z g a x := by
  simp only [tile, gated, sinkMix, sinkTotal, sinkWeight, roof, peak, ← lowest]
  pointwise [k0_pay20, k0_pay4, k0_pay3, k0_pay2, near, far, seen, spot]

theorem head4 (i : grid0.Coords) (A : S128x128.Idx → EReal) (B : S256x128.Idx → EReal) (C : S128x128.Idx → EReal) (D : S128x128.Idx → EReal) (E : S256x128.Idx → EReal) (J : S128x128.Idx → EReal) (q g : S256x128.Idx → EReal) (z : EReal) (a : Fin 256) (x : Fin 128) :
    k0_pay28 (F := Ideal) (k0_pay26 (F := Ideal) (k0_pay3 i) (k0_pay4 (F := Ideal)) A B C D E J q z) (k0_pay27 (F := Ideal) (k0_pay3 i) (k0_pay4 (F := Ideal)) A B C q z) g (ix2 a x) = tile i 3191145715#32 q (k0_pay21 (F := Ideal) A B C) (k0_pay22 (F := Ideal) D E J) z g a x := by
  simp only [tile, gated, sinkMix, sinkTotal, sinkWeight, roof, peak, ← lowest]
  pointwise [k0_pay28, k0_pay27, k0_pay26, k0_pay25, k0_pay24, k0_pay23, k0_pay4, k0_pay3, k0_pay2, near, far, seen, spot]

theorem head5 (i : grid0.Coords) (K : S512x128.Idx → EReal) (V : S512x128.Idx → EReal) (q g : S256x128.Idx → EReal) (z : EReal) (a : Fin 256) (x : Fin 128) :
    k0_pay29 (F := Ideal) (k0_pay3 i) (k0_pay4 (F := Ideal)) K V q z g (ix2 a x) = tile i 3187671040#32 q K V z g a x := by
  simp only [tile, gated, sinkMix, sinkTotal, sinkWeight, roof, peak, ← lowest]
  pointwise [k0_pay29, k0_pay4, k0_pay3, k0_pay2, near, far, seen, spot]

theorem head6 (i : grid0.Coords) (K : S512x128.Idx → EReal) (V : S512x128.Idx → EReal) (q g : S256x128.Idx → EReal) (z : EReal) (a : Fin 256) (x : Fin 128) :
    k0_pay30 (F := Ideal) (k0_pay3 i) (k0_pay4 (F := Ideal)) K V q z g (ix2 a x) = tile i 3182757107#32 q K V z g a x := by
  simp only [tile, gated, sinkMix, sinkTotal, sinkWeight, roof, peak, ← lowest]
  pointwise [k0_pay30, k0_pay4, k0_pay3, k0_pay2, near, far, seen, spot]

theorem head7 (i : grid0.Coords) (K : S512x128.Idx → EReal) (V : S512x128.Idx → EReal) (q g : S256x128.Idx → EReal) (z : EReal) (a : Fin 256) (x : Fin 128) :
    k0_pay32 (F := Ideal) (k0_pay3 i) (k0_pay4 (F := Ideal)) V (k0_pay31 (F := Ideal) K q) (FloatOps.ofBits FTy.f32 3179282432#32) z g (ix2 a x) = tile i 3179282432#32 q K V z g a x := by
  simp only [tile, gated, sinkMix, sinkTotal, sinkWeight, roof, peak, ← lowest]
  pointwise [k0_pay32, k0_pay31, k0_pay4, k0_pay3, k0_pay2, near, far, seen, spot]

theorem head8 (i : grid0.Coords) (K : S512x128.Idx → EReal) (V : S512x128.Idx → EReal) (q g : S256x128.Idx → EReal) (z : EReal) (a : Fin 256) (x : Fin 128) :
    k0_pay35 (F := Ideal) (k0_pay3 i) (k0_pay4 (F := Ideal)) K V q z g (ix2 a x) = tile i 3174368499#32 q K V z g a x := by
  simp only [tile, gated, sinkMix, sinkTotal, sinkWeight, roof, peak, ← lowest]
  pointwise [k0_pay35, k0_pay4, k0_pay3, k0_pay2, near, far, seen, spot]

theorem head9 (i : grid0.Coords) (K : S512x128.Idx → EReal) (V : S512x128.Idx → EReal) (q g : S256x128.Idx → EReal) (z : EReal) (a : Fin 256) (x : Fin 128) :
    k0_pay38 (F := Ideal) (k0_pay3 i) V (k0_pay36 (F := Ideal) K q) (k0_pay37 (F := Ideal) (k0_pay4 (F := Ideal))) z g (ix2 a x) = tile i 3170893824#32 q K V z g a x := by
  simp only [tile, gated, sinkMix, sinkTotal, sinkWeight, roof, peak, ← lowest]
  pointwise [k0_pay38, k0_pay37, k0_pay36, k0_pay4, k0_pay3, k0_pay2, near, far, seen, spot]

theorem head10 (i : grid0.Coords) (K : S512x128.Idx → EReal) (V : S512x128.Idx → EReal) (q g : S256x128.Idx → EReal) (z : EReal) (a : Fin 256) (x : Fin 128) :
    k0_pay41 (F := Ideal) V (k0_pay39 (F := Ideal) (k0_pay3 i) (k0_pay4 (F := Ideal)) K q) z (k0_pay40 (F := Ideal) (k0_pay3 i) (k0_pay4 (F := Ideal)) K q z) g (ix2 a x) = tile i 3165979891#32 q K V z g a x := by
  simp only [tile, gated, sinkMix, sinkTotal, sinkWeight, roof, peak, ← lowest]
  pointwise [k0_pay41, k0_pay40, k0_pay39, k0_pay4, k0_pay3, k0_pay2, near, far, seen, spot]

theorem head11 (i : grid0.Coords) (K : S512x128.Idx → EReal) (V : S512x128.Idx → EReal) (q g : S256x128.Idx → EReal) (z : EReal) (a : Fin 256) (x : Fin 128) :
    k0_pay47 (F := Ideal) V (k0_pay45 (F := Ideal) (k0_pay3 i) (k0_pay4 (F := Ideal)) K q z) (k0_pay46 (F := Ideal) (k0_pay3 i) (k0_pay4 (F := Ideal)) K q z) g (ix2 a x) = tile i 3162505216#32 q K V z g a x := by
  simp only [tile, gated, sinkMix, sinkTotal, sinkWeight, roof, peak, ← lowest]
  pointwise [k0_pay47, k0_pay46, k0_pay45, k0_pay44, k0_pay43, k0_pay42, k0_pay4, k0_pay3, k0_pay2, near, far, seen, spot]

theorem head12 (i : grid0.Coords) (A : S128x128.Idx → EReal) (B : S256x128.Idx → EReal) (C : S128x128.Idx → EReal) (V : S512x128.Idx → EReal) (q g : S256x128.Idx → EReal) (z : EReal) (a : Fin 256) (x : Fin 128) :
    k0_pay53 (F := Ideal) V z (k0_pay51 (F := Ideal) (k0_pay3 i) (k0_pay4 (F := Ideal)) A B C q z) (k0_pay52 (F := Ideal) (k0_pay3 i) (k0_pay4 (F := Ideal)) A B C q z) g (ix2 a x) = tile i 3157591283#32 q (k0_pay48 (F := Ideal) A B C) V z g a x := by
  simp only [tile, gated, sinkMix, sinkTotal, sinkWeight, roof, peak, ← lowest]
  pointwise [k0_pay53, k0_pay52, k0_pay51, k0_pay50, k0_pay4, k0_pay3, k0_pay2, near, far, seen, spot]

theorem head13 (i : grid0.Coords) (K : S512x128.Idx → EReal) (V : S512x128.Idx → EReal) (q g : S256x128.Idx → EReal) (z : EReal) (a : Fin 256) (x : Fin 128) :
    k0_pay59 (F := Ideal) (k0_pay57 (F := Ideal) (k0_pay3 i) (k0_pay4 (F := Ideal)) K q z) (k0_pay58 (F := Ideal) (k0_pay3 i) (k0_pay4 (F := Ideal)) K V q z) g (ix2 a x) = tile i 3154116608#32 q K V z g a x := by
  simp only [tile, gated, sinkMix, sinkTotal, sinkWeight, roof, peak, ← lowest]
  pointwise [k0_pay59, k0_pay58, k0_pay57, k0_pay56, k0_pay55, k0_pay54, k0_pay4, k0_pay3, k0_pay2, near, far, seen, spot]

theorem head14 (i : grid0.Coords) (K : S512x128.Idx → EReal) (V : S512x128.Idx → EReal) (q g : S256x128.Idx → EReal) (z : EReal) (a : Fin 256) (x : Fin 128) :
    k0_pay60 (F := Ideal) (k0_pay3 i) (k0_pay4 (F := Ideal)) K V q z g (ix2 a x) = tile i 3149202675#32 q K V z g a x := by
  simp only [tile, gated, sinkMix, sinkTotal, sinkWeight, roof, peak, ← lowest]
  pointwise [k0_pay60, k0_pay4, k0_pay3, k0_pay2, near, far, seen, spot]

theorem head15 (i : grid0.Coords) (K : S512x128.Idx → EReal) (V : S512x128.Idx → EReal) (q g : S256x128.Idx → EReal) (z : EReal) (a : Fin 256) (x : Fin 128) :
    k0_pay1 (F := Ideal) (k0_pay61 (F := Ideal) (k0_pay3 i) (k0_pay4 (F := Ideal)) K V q z) (k0_pay62 (F := Ideal) g) (ix2 a x) = tile i 3145728000#32 q K V z g a x := by
  simp only [tile, gated, sinkMix, sinkTotal, sinkWeight, roof, peak, ← lowest]
  pointwise [k0_pay62, k0_pay61, k0_pay4, k0_pay3, k0_pay2, k0_pay1, near, far, seen, spot]

end Cert.AttnAIdeal.Array

end
-- ==== Proof.AttnATile.lean ====
/- Facts of the windowed attention's masks and slopes. -/
module

public import proofs.«01_k».proof.Proof.AttnAHeads
public import proofs.«01_k».proof.Proof.Gen.Pre_finite_a

@[expose] public section

set_option maxRecDepth 16384

noncomputable section

namespace Cert.AttnAIdeal.Array

open Cert.AttnAIdeal Cert.AttnAIdeal.Gen Idealize.ShloMosaic Idealize.ShloMosaic.TcCoe Idealize.SL.Sem
open Cert.Softmax Cert.AttnARefIdeal.Stage

/-- The named constant is minus infinity. -/
theorem mask : Named.named (F := Ideal) (φ := FTy.f32) κ "mask" 0xF149F2CA#32 = (⊥ : EReal) :=
  IdealRules.named_const.ideal_named_scalar _ _ _ _ rfl

/-- The patterns of the slopes, negated. -/
def slopeBits : Fin 16 → BitVec 32 := ![3207922931#32, 3204448256#32, 3199534323#32, 3196059648#32, 3191145715#32, 3187671040#32, 3182757107#32, 3179282432#32, 3174368499#32, 3170893824#32, 3165979891#32, 3162505216#32, 3157591283#32, 3154116608#32, 3149202675#32, 3145728000#32]

theorem slope_neg (h : Fin 16) : Ideal.ofBits FTy.f32 (slopeBits h) = -headSlope h := by
  pointwise [headSlope, Cert.AttnARefIdeal.Read.val_main_v36, Cert.AttnARefIdeal.Read.val_main_v35, Cert.AttnARefIdeal.Read.val_main_v34, Cert.AttnARefIdeal.Read.val_main_v33, Cert.AttnARefIdeal.Read.val_main_v32, Cert.AttnARefIdeal.Read.val_main_v31, Cert.AttnARefIdeal.Read.val_main_v30, Cert.AttnARefIdeal.Read.val_main_v29, Cert.AttnARefIdeal.Read.val_main_v28, Cert.AttnARefIdeal.Read.val_main_v27, Cert.AttnARefIdeal.Read.val_main_v26, Cert.AttnARefIdeal.Read.val_main_v25, Cert.AttnARefIdeal.Read.val_main_v24, Cert.AttnARefIdeal.Read.val_main_v23, Cert.AttnARefIdeal.Read.val_main_v22, Cert.AttnARefIdeal.Read.val_main_v21, Cert.AttnARefIdeal.Read.val_main_v20, Cert.AttnARefIdeal.Read.val_main_cst_0, Cert.AttnARefIdeal.Read.val_main_cst_1, Cert.AttnARefIdeal.Read.val_main_cst_2, Cert.AttnARefIdeal.Read.val_main_cst_3, Cert.AttnARefIdeal.Read.val_main_cst_4, Cert.AttnARefIdeal.Read.val_main_cst_5, Cert.AttnARefIdeal.Read.val_main_cst_6, Cert.AttnARefIdeal.Read.val_main_cst_7, Cert.AttnARefIdeal.Read.val_main_cst_8, Cert.AttnARefIdeal.Read.val_main_cst_9, Cert.AttnARefIdeal.Read.val_main_cst_10, Cert.AttnARefIdeal.Read.val_main_cst_11, Cert.AttnARefIdeal.Read.val_main_cst_12, Cert.AttnARefIdeal.Read.val_main_cst_13, Cert.AttnARefIdeal.Read.val_main_cst_14, Cert.AttnARefIdeal.Read.val_main_cst_15]
  fin_cases h <;> simp [slopeBits, Ideal.ofBits, Ideal.ieee, -EReal.coe_mul, ← EReal.coe_neg]

theorem real_bits (h : Fin 16) : IsReal (Ideal.ofBits FTy.f32 (slopeBits h)) := by
  fin_cases h <;> refine ⟨?_, ?_⟩ <;> simp [slopeBits, Ideal.ofBits, Ideal.ieee, -EReal.coe_mul]

theorem less_eq {x y : BitVec 32} (h : x.toInt ≤ y.toInt) : BitVec.ofBool (x.sle y) = 1#1 := by
  rw [BitVec.sle_eq_decide, decide_eq_true h]
  rfl

theorem not_less_eq {x y : BitVec 32} (h : y.toInt < x.toInt) : BitVec.ofBool (x.sle y) = 0#1 := by
  rw [BitVec.sle_eq_decide, decide_eq_false (not_le.2 h)]
  rfl

theorem less {x y : BitVec 32} (h : x.toInt < y.toInt) : BitVec.ofBool (x.slt y) = 1#1 := by
  rw [BitVec.slt_eq_decide, decide_eq_true h]
  rfl

theorem not_less {x y : BitVec 32} (h : y.toInt ≤ x.toInt) : BitVec.ofBool (x.slt y) = 0#1 := by
  rw [BitVec.slt_eq_decide, decide_eq_false (not_lt.2 h)]
  rfl

theorem word_toInt (n : ℕ) (h : n < 2 ^ 31) : (BitVec.ofNat 32 n).toInt = n := by
  rw [BitVec.toInt_eq_toNat_cond, BitVec.toNat_ofNat]
  split_ifs <;> omega

theorem rel_eq (n a s t k : ℕ) (ht : t = n * 256 + a) (hk : k + 128 = n * 256 + s) (hn : n < 8) (ha : a < 256) (hs : s < 512) :
    IntOp.subi (IntOp.addi (BitVec.ofNat 32 a) 128#32) (BitVec.ofNat 32 s) = IntOp.subi (BitVec.ofNat 32 t) (BitVec.ofNat 32 k) := by
  refine BitVec.eq_of_toNat_eq ?_
  simp only [IntOp.subi, IntOp.addi, BitVec.toNat_sub, BitVec.toNat_add, BitVec.toNat_ofNat]
  omega

theorem spot_toNat (i : grid0.Coords) (s : ℕ) (hs : s < 512) (hi : (i 1).val < 8) :
    (spot i s).toNat = ((i 1).val * 256 + s + (2 ^ 32 - 128)) % 2 ^ 32 := by
  simp only [spot, Scalar.subi, Scalar.muli, IntOp.subi, IntOp.muli, IntOp.addi, BitVec.toNat_sub, BitVec.toNat_mul, BitVec.toNat_add, BitVec.toNat_ofNat]
  omega

theorem seen_in (i : grid0.Coords) (a s t k : ℕ) (ht : t = (i 1).val * 256 + a) (hk : k + 128 = (i 1).val * 256 + s) (hi : (i 1).val < 8)
    (ha : a < 256) (hs : s < 512) (hk2 : k < 2048) : seen i a s = inside t k := by
  have e : (spot i s).toInt = k := by
    rw [BitVec.toInt_eq_toNat_cond, spot_toNat i s hs hi]
    split_ifs <;> omega
  have e1 : IntOp.cmpi CmpIPredicate.sge (spot i s) 0#32 = 1#1 := less_eq (by rw [e, word_toInt 0 (by norm_num)]; omega)
  have e2 : IntOp.cmpi CmpIPredicate.slt (spot i s) 2048#32 = 1#1 := less (by rw [e, word_toInt 2048 (by norm_num)]; omega)
  rw [seen, e1, e2, rel_eq _ a s t k ht hk hi ha hs, ← inside]
  generalize inside t k = x
  revert x
  decide

theorem seen_out (i : grid0.Coords) (a s : ℕ) (hi : (i 1).val < 8) (hs : s < 512)
    (h : (i 1).val * 256 + s < 128 ∨ 2176 ≤ (i 1).val * 256 + s) : seen i a s = 0#1 := by
  have e : (spot i s).toInt = ((i 1).val * 256 + s : ℕ) - (128 : ℤ) := by
    rw [BitVec.toInt_eq_toNat_cond, spot_toNat i s hs hi]
    split_ifs <;> omega
  rw [seen]
  rcases h with h | h
  · have e1 : IntOp.cmpi CmpIPredicate.sge (spot i s) 0#32 = 0#1 := not_less_eq (by rw [e, word_toInt 0 (by norm_num)]; omega)
    rw [e1]
    simp [IntOp.andi]
  · have e1 : IntOp.cmpi CmpIPredicate.slt (spot i s) 2048#32 = 0#1 := not_less (by rw [e, word_toInt 2048 (by norm_num)]; omega)
    rw [e1]
    simp [IntOp.andi]

theorem inside_out (t k : ℕ) (ht : t < 2048) (hk : k < 2048) (h : t + 128 < k ∨ k + 128 < t) : inside t k = 0#1 := by
  rcases h with h | h
  · have e : IntOp.absi (IntOp.subi (BitVec.ofNat 32 t) (BitVec.ofNat 32 k)) = BitVec.ofNat 32 (k - t) := by
      have m : (BitVec.ofNat 32 t - BitVec.ofNat 32 k).msb = true := by
        rw [BitVec.msb_eq_decide]
        simp only [BitVec.toNat_sub, BitVec.toNat_ofNat, decide_eq_true_eq]
        omega
      rw [IntOp.absi, IntOp.subi, if_pos m]
      refine BitVec.eq_of_toNat_eq ?_
      simp only [BitVec.toNat_neg, BitVec.toNat_sub, BitVec.toNat_ofNat]
      omega
    rw [inside, e]
    exact not_less_eq (by rw [word_toInt 128 (by norm_num), word_toInt _ (by omega)]; omega)
  · have e : IntOp.absi (IntOp.subi (BitVec.ofNat 32 t) (BitVec.ofNat 32 k)) = BitVec.ofNat 32 (t - k) := by
      have m : (BitVec.ofNat 32 t - BitVec.ofNat 32 k).msb = false := by
        rw [BitVec.msb_eq_decide]
        simp only [BitVec.toNat_sub, BitVec.toNat_ofNat, decide_eq_false_iff_not]
        omega
      rw [IntOp.absi, IntOp.subi, if_neg (by simp [m])]
      refine BitVec.eq_of_toNat_eq ?_
      simp only [BitVec.toNat_sub, BitVec.toNat_ofNat]
      omega
    rw [inside, e]
    exact not_less_eq (by rw [word_toInt 128 (by norm_num), word_toInt _ (by omega)]; omega)

/-- A head's tile is the reference's. -/
theorem tile_eq (P : S8192x5120.Idx → EReal) (Z : S16.Idx → EReal) (i : grid0.Coords) (q : S256x128.Idx → EReal) (K V : S512x128.Idx → EReal) (z : EReal)
    (g : S256x128.Idx → EReal) (a : Fin 256) (x : Fin 128) (b h j : Fin 4) (t : Fin 2048) (r : Fin 8192) (col : Fin 2048) (hi : (i 1).val < 8)
    (ht : t.val = (i 1).val * 256 + a.val) (hr : r.val = b.val * 2048 + t.val) (hcol : col.val = h.val * 512 + j.val * 128 + x.val)
    (hq : ∀ x, q (ix2 a x) = queryAt P b h j t x)
    (hK : ∀ (s : Fin 512) (k : Fin 2048) (x : Fin 128), k.val + 128 = (i 1).val * 256 + s.val → K (ix2 s x) = keyAt P b h k x)
    (hV : ∀ (s : Fin 512) (k : Fin 2048) (x : Fin 128), k.val + 128 = (i 1).val * 256 + s.val → V (ix2 s x) = valueAt P b h x k)
    (hg : g (ix2 a x) = P (ix2 r ⟨col.val, by omega⟩)) (hz : z = Z (ix1 ⟨h.val * 4 + j.val, by omega⟩)) (hr : IsReal z)
    (hs : ∀ k, score P b h j t k ≠ ⊤) :
    tile i (slopeBits ⟨h.val * 4 + j.val, by omega⟩) q K V z g a x = Cert.AttnARefIdeal.Read.val_main_v76 (F := Ideal) P Z (ix2 r col) := by
  rw [at76 P Z r col b h j t x (by assumption) hcol, tile, hg, row, ← hz, ← sinkMix_eq _ z _ hr hs]
  refine congrArg (fun o => gated o _) ?_
  have bot : ∀ y : EReal, y + ⊥ = ⊥ := EReal.add_bot
  refine sinkMix_partners (fun (s : Fin 512) (k : Fin 2048) => k.val + 128 = (i 1).val * 256 + s.val) _ _ z _ _ 0 0 ?_ ?_ ?_ ?_ ?_ ?_
  · intro s s' k h1 h2
    exact Fin.ext (by omega)
  · intro s k k' h1 h2
    exact Fin.ext (by omega)
  · intro s k h1
    rw [near, score, seen_in i a.val s.val t.val k.val ht h1 hi a.isLt s.isLt k.isLt, mask, slope_neg,
      far, rel_eq _ a.val s.val t.val k.val ht h1 hi a.isLt s.isLt, ← gap]
    simp only [hq, hK s k _ h1, mul_comm (queryAt _ _ _ _ _ _)]
    simp only [Scalar.select]
    split_ifs
    · rfl
    · exact bot _
  · intro s k h1
    exact hV s k x h1
  · intro s h1
    rw [near, seen_out i a.val s.val hi s.isLt ?_, mask]
    · exact bot _
    · by_contra c
      exact h1 ⟨(i 1).val * 256 + s.val - 128, by omega⟩ (by simp only; omega)
  · intro k h1
    rw [score, inside_out t.val k.val t.isLt k.isLt ?_]
    · rfl
    · by_contra c
      exact h1 ⟨k.val + 128 - (i 1).val * 256, by omega⟩ (by simp only; omega)

end Cert.AttnAIdeal.Array

end
-- ==== Proof.AttnA.lean ====
/- The windowed attention with a sink of layers 0 and 2, from its projections. -/
module

public import proofs.«01_k».proof.Defs
public import proofs.«01_k».proof.Proof.AttnATile
public import Idealize.ShloMosaic.Lib.Pipeline.ValueKit
public import Idealize.ShloMosaic.Lib.Pipeline.Covers

@[expose] public section

set_option maxRecDepth 16384

noncomputable section

namespace Cert.AttnAIdeal.Array

open Cert.AttnAIdeal Cert.AttnAIdeal.Gen Idealize.ShloMosaic Idealize.ShloMosaic.TcCoe Idealize.SL.Sem
open Cert.Softmax Cert.AttnARefIdeal.Stage

variable (m : (ℓ : Loc nD τ sig) → Buf (Elt Ideal) ℓ)

theorem places : ∀ t : Fin grid0.N, win0_0.index t = ![0]
    ∧ win0_1.index t = ![(grid0.coords t 0).val * 8 + (grid0.coords t 1).val, 1]
    ∧ win0_2.index t = ![(grid0.coords t 0).val * 16 + ((grid0.coords t 1).val * 2 - 1), 8]
    ∧ win0_3.index t = ![(grid0.coords t 0).val * 8 + (grid0.coords t 1).val, 8]
    ∧ win0_4.index t = ![(grid0.coords t 0).val * 16 + min ((grid0.coords t 1).val * 2 + 2) 15, 8]
    ∧ win0_5.index t = ![(grid0.coords t 0).val * 16 + ((grid0.coords t 1).val * 2 - 1), 9]
    ∧ win0_6.index t = ![(grid0.coords t 0).val * 8 + (grid0.coords t 1).val, 9]
    ∧ win0_7.index t = ![(grid0.coords t 0).val * 16 + min ((grid0.coords t 1).val * 2 + 2) 15, 9]
    ∧ win0_8.index t = ![(grid0.coords t 0).val * 8 + (grid0.coords t 1).val, 0]
    ∧ win0_9.index t = ![(grid0.coords t 0).val * 8 + (grid0.coords t 1).val, 0] := by
  decide +kernel

/-- The projections. -/
abbrev proj (c : Dev nD) : S8192x5120.Idx → EReal := m ((c : Thread nD τ).loc main_arg0)

/-- The sinks. -/
abbrev sinks (c : Dev nD) : S16.Idx → EReal := m ((c : Thread nD τ).loc main_arg1)

theorem keys0 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay5 (F := Ideal) (View.ld (iblk m c 2 t) (Rect.unit ![0, 0] ![128, 128] inb_S128x512_S128x128_0_0)) (View.ld (iblk m c 3 t) (Rect.unit ![0, 0] ![256, 128] inb_S256x512_S256x128_0_0)) (View.ld (iblk m c 4 t) (Rect.unit ![0, 0] ![128, 128] inb_S128x512_S128x128_0_0)) (ix2 s x) = keyAt (proj m c) b 0 k x := by
  have hi1 : (grid0.coords t 1).val < 8 := (grid0.coords t 1).isLt
  pointwise [k0_pay5, keyAt]
  split_ifs <;> blk_ext [iblk, V, places t]

theorem values0 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay6 (F := Ideal) (View.ld (iblk m c 5 t) (Rect.unit ![0, 0] ![128, 128] inb_S128x512_S128x128_0_0)) (View.ld (iblk m c 6 t) (Rect.unit ![0, 0] ![256, 128] inb_S256x512_S256x128_0_0)) (View.ld (iblk m c 7 t) (Rect.unit ![0, 0] ![128, 128] inb_S128x512_S128x128_0_0)) (ix2 s x) = valueAt (proj m c) b 0 x k := by
  have hi1 : (grid0.coords t 1).val < 8 := (grid0.coords t 1).isLt
  pointwise [k0_pay6, valueAt]
  split_ifs <;> blk_ext [iblk, V, places t]

theorem keys1 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay21 (F := Ideal) (View.ld (iblk m c 2 t) (Rect.unit ![0, 128] ![128, 128] inb_S128x512_S128x128_0_128)) (View.ld (iblk m c 3 t) (Rect.unit ![0, 128] ![256, 128] inb_S256x512_S256x128_0_128)) (View.ld (iblk m c 4 t) (Rect.unit ![0, 128] ![128, 128] inb_S128x512_S128x128_0_128)) (ix2 s x) = keyAt (proj m c) b 1 k x := by
  have hi1 : (grid0.coords t 1).val < 8 := (grid0.coords t 1).isLt
  pointwise [k0_pay21, keyAt]
  split_ifs <;> blk_ext [iblk, V, places t]

theorem values1 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay22 (F := Ideal) (View.ld (iblk m c 5 t) (Rect.unit ![0, 128] ![128, 128] inb_S128x512_S128x128_0_128)) (View.ld (iblk m c 6 t) (Rect.unit ![0, 128] ![256, 128] inb_S256x512_S256x128_0_128)) (View.ld (iblk m c 7 t) (Rect.unit ![0, 128] ![128, 128] inb_S128x512_S128x128_0_128)) (ix2 s x) = valueAt (proj m c) b 1 x k := by
  have hi1 : (grid0.coords t 1).val < 8 := (grid0.coords t 1).isLt
  pointwise [k0_pay22, valueAt]
  split_ifs <;> blk_ext [iblk, V, places t]

theorem keys2 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay33 (F := Ideal) (View.ld (iblk m c 2 t) (Rect.unit ![0, 256] ![128, 128] inb_S128x512_S128x128_0_256)) (View.ld (iblk m c 3 t) (Rect.unit ![0, 256] ![256, 128] inb_S256x512_S256x128_0_256)) (View.ld (iblk m c 4 t) (Rect.unit ![0, 256] ![128, 128] inb_S128x512_S128x128_0_256)) (ix2 s x) = keyAt (proj m c) b 2 k x := by
  have hi1 : (grid0.coords t 1).val < 8 := (grid0.coords t 1).isLt
  pointwise [k0_pay33, keyAt]
  split_ifs <;> blk_ext [iblk, V, places t]

theorem values2 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay34 (F := Ideal) (View.ld (iblk m c 5 t) (Rect.unit ![0, 256] ![128, 128] inb_S128x512_S128x128_0_256)) (View.ld (iblk m c 6 t) (Rect.unit ![0, 256] ![256, 128] inb_S256x512_S256x128_0_256)) (View.ld (iblk m c 7 t) (Rect.unit ![0, 256] ![128, 128] inb_S128x512_S128x128_0_256)) (ix2 s x) = valueAt (proj m c) b 2 x k := by
  have hi1 : (grid0.coords t 1).val < 8 := (grid0.coords t 1).isLt
  pointwise [k0_pay34, valueAt]
  split_ifs <;> blk_ext [iblk, V, places t]

theorem keys3 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay48 (F := Ideal) (View.ld (iblk m c 2 t) (Rect.unit ![0, 384] ![128, 128] inb_S128x512_S128x128_0_384)) (View.ld (iblk m c 3 t) (Rect.unit ![0, 384] ![256, 128] inb_S256x512_S256x128_0_384)) (View.ld (iblk m c 4 t) (Rect.unit ![0, 384] ![128, 128] inb_S128x512_S128x128_0_384)) (ix2 s x) = keyAt (proj m c) b 3 k x := by
  have hi1 : (grid0.coords t 1).val < 8 := (grid0.coords t 1).isLt
  pointwise [k0_pay48, keyAt]
  split_ifs <;> blk_ext [iblk, V, places t]

theorem values3 (c : Dev nD) (t : Fin cfg0.grid.N) (b : Fin 4) (hb : b.val = (grid0.coords t 0).val) (s : Fin 512) (k : Fin 2048) (x : Fin 128)
    (hk : k.val + 128 = (grid0.coords t 1).val * 256 + s.val) :
    k0_pay49 (F := Ideal) (View.ld (iblk m c 5 t) (Rect.unit ![0, 384] ![128, 128] inb_S128x512_S128x128_0_384)) (View.ld (iblk m c 6 t) (Rect.unit ![0, 384] ![256, 128] inb_S256x512_S256x128_0_384)) (View.ld (iblk m c 7 t) (Rect.unit ![0, 384] ![128, 128] inb_S128x512_S128x128_0_384)) (ix2 s x) = valueAt (proj m c) b 3 x k := by
  have hi1 : (grid0.coords t 1).val < 8 := (grid0.coords t 1).isLt
  pointwise [k0_pay49, valueAt]
  split_ifs <;> blk_ext [iblk, V, places t]

/-- The queries a point loads. -/
theorem queries (c : Dev nD) (t : Fin cfg0.grid.N) (a : Fin 256) (k : Fin 2048) (r : Fin 8192) (l : Fin 5120)
    (hr : r.val = ((grid0.coords t 0).val * 8 + (grid0.coords t 1).val) * 256 + a.val) (hl : l.val = 2048 + k.val) :
    X0_1 m c t (ix2 a k) = proj m c (ix2 r l) := by
  unfold X0_1 Pipeline.Window.fill
  rw [dif_pos (moved0_1 t (ix2 a k))]
  blk_ext [iblk, V, places t]

/-- The gates a point loads. -/
theorem gates (c : Dev nD) (t : Fin cfg0.grid.N) (a : Fin 256) (k : Fin 2048) (r : Fin 8192) (l : Fin 5120)
    (hr : r.val = ((grid0.coords t 0).val * 8 + (grid0.coords t 1).val) * 256 + a.val) (hl : l.val = k.val) :
    X0_8 m c t (ix2 a k) = proj m c (ix2 r l) := by
  unfold X0_8 Pipeline.Window.fill
  rw [dif_pos (moved0_8 t (ix2 a k))]
  blk_ext [iblk, V, places t]

/-- The sink a head loads. -/
theorem sinkAt (c : Dev nD) (t : Fin cfg0.grid.N) (n : Fin 16) (inb)
    (h0 : 0 < (Rect.unit (s := S16) ![n.val] ![1] inb).shape.numel) :
    View.ld (iblk m c 0 t) (Rect.unit ![n.val] ![1] inb) (Shape.Idx.first h0) = sinks m c (ix1 n) := by
  have z : (Shape.Idx.first h0 0).val < 1 := (Shape.Idx.first h0 0).isLt
  have e : (Rect.unit (s := S16) ![n.val] ![1] inb).idx (Shape.Idx.first h0) = ix1 n := by
    funext a
    fin_cases a
    refine Fin.ext ?_
    show n.val + 1 * (Shape.Idx.first h0 0).val = n.val
    omega
  refine (congrArg (iblk m c 0 t) e).trans ?_
  blk_ext [iblk, V, places t]

/-- A number's magnitude. -/
def magnitude (x : EReal) : EReal := max x (-x)

/-- The queries and keys are real numbers. -/
theorem real (c : Dev nD) (h : Cert.Pre_AttnAIdeal_finite_a m) (r : Fin 8192) (k : Fin 5120) (h0 : 2048 ≤ k.val) (h1 : k.val < 4608) :
    IsReal (proj m c (ix2 r k)) := by
  have e : Cert.Pre_finite_a.fn (F := Ideal) (proj m c) (sinks m c) (ix1 ⟨r.val * 2560 + (k.val - 2048), by omega⟩)
      = Ideal.cmp .olt (magnitude (proj m c (ix2 r k))) (Ideal.ofBits .f32 0x7F800000#32) := by
    pointwise [Cert.Pre_finite_a.fn, magnitude, Ideal.absf_def]
    have e0 : (r.val * 2560 + (k.val - 2048)) / 2560 = r.val := by omega
    have e1 : 2048 + (r.val * 2560 + (k.val - 2048)) % 2560 = k.val := by omega
    rw [dif_pos (by omega)]
    simp only [e0, e1, Fin.eta]
  rw [congrFun (h c), highest] at e
  exact isReal_of_below e.symm

/-- The sinks are real numbers. -/
theorem real_sink (c : Dev nD) (h : Cert.Pre_AttnAIdeal_finite_a m) (n : Fin 16) : IsReal (sinks m c (ix1 n)) := by
  have e : Cert.Pre_finite_a.fn (F := Ideal) (proj m c) (sinks m c) (ix1 ⟨20971520 + n.val, by omega⟩)
      = Ideal.cmp .olt (magnitude (sinks m c (ix1 n))) (Ideal.ofBits .f32 0x7F800000#32) := by
    pointwise [Cert.Pre_finite_a.fn, magnitude, Ideal.absf_def]
  rw [congrFun (h c), highest] at e
  exact isReal_of_below e.symm

theorem score_below (c : Dev nD) (hp : Cert.Pre_AttnAIdeal_finite_a m) (b h j : Fin 4) (t s : Fin 2048) : score (proj m c) b h j t s ≠ ⊤ := by
  rw [score, Scalar.select]
  split_ifs
  · rw [← slope_neg]
    refine (IsReal.add (IsReal.mul (IsReal.sum fun x => IsReal.mul (real m c hp _ _ (by simp only; omega) (by simp only; omega))
      (real m c hp _ _ (by simp only; omega) (by simp only; omega))) ?_) (IsReal.mul (real_bits _) (IsReal.coe _))).1
    refine ⟨?_, ?_⟩ <;> simp [Ideal.ofBits, Ideal.ieee, -EReal.coe_mul]
  · exact bot_ne_top

/-- A head's tile is the reference's, its loads read. -/
theorem finish (c : Dev nD) (hp : Cert.Pre_AttnAIdeal_finite_a m) (t : Fin cfg0.grid.N) (hi0 : (grid0.coords t 0).val < 4) (hi1 : (grid0.coords t 1).val < 8)
    (a : Fin 256) (x : Fin 128) (r : Fin 8192) (col : Fin 2048) (h j : Fin 4) (n : Fin 16) (q g : S256x128.Idx → EReal) (K V : S512x128.Idx → EReal) (z : EReal)
    (hK : ∀ (s : Fin 512) (k : Fin 2048) (x : Fin 128), k.val + 128 = (grid0.coords t 1).val * 256 + s.val → K (ix2 s x) = keyAt (proj m c) ⟨(grid0.coords t 0).val, hi0⟩ h k x)
    (hV : ∀ (s : Fin 512) (k : Fin 2048) (x : Fin 128), k.val + 128 = (grid0.coords t 1).val * 256 + s.val → V (ix2 s x) = valueAt (proj m c) ⟨(grid0.coords t 0).val, hi0⟩ h x k)
    (hz : z = sinks m c (ix1 n))
    (hq : ∀ x, q (ix2 a x) = queryAt (proj m c) ⟨(grid0.coords t 0).val, hi0⟩ h j ⟨(grid0.coords t 1).val * 256 + a.val, by omega⟩ x)
    (hg : g (ix2 a x) = proj m c (ix2 r ⟨col.val, by omega⟩))
    (hr : r.val = ((grid0.coords t 0).val * 8 + (grid0.coords t 1).val) * 256 + a.val)
    (hcol : col.val = h.val * 512 + j.val * 128 + x.val) (hn : n = ⟨h.val * 4 + j.val, by omega⟩) :
    tile (grid0.coords t) (slopeBits n) q K V z g a x = Cert.AttnARefIdeal.Read.val_main_v76 (F := Ideal) (proj m c) (sinks m c) (ix2 r col) := by
  subst hn
  exact tile_eq (proj m c) (sinks m c) (grid0.coords t) q K V z g a x ⟨(grid0.coords t 0).val, hi0⟩ h j ⟨(grid0.coords t 1).val * 256 + a.val, by omega⟩ r col hi1
    rfl (by simp only; omega) hcol hq hK hV hg hz (hz ▸ real_sink m c hp _) fun k => score_below m c hp _ _ _ _ k

theorem array (c : Dev nD) (hp : Cert.Pre_AttnAIdeal_finite_a m) :
    (dats m 0 c).arrAt 9 cfg0.N = Cert.AttnARefIdeal.Read.val_main_v76 (F := Ideal) (proj m c) (sinks m c) := by
  refine (dats m 0 c).arrAt_eq_of_covers 9 _ (by decide +kernel) fun t hf y => ?_
  blk_simp
  rw [after0_9, outsAt0]
  frame_out
  idx_vars y
  have hi0 : (grid0.coords t 0).val < 4 := (grid0.coords t 0).isLt
  have hi1 : (grid0.coords t 1).val < 8 := (grid0.coords t 1).isLt
  have e : ((View.whole main_v0).slice (win0_9.rect t)).emb (ix2 y0 y1)
      = ix2 (⟨((grid0.coords t 0).val * 8 + (grid0.coords t 1).val) * 256 + y0.val, by omega⟩ : Fin 8192) (⟨y1.val, by omega⟩ : Fin 2048) := by
    blk_ext [places t]
  rw [e]
  canon_tiles x h
  all_goals idx_vars x
  case piece0 =>
    refine (head15 _ _ _ _ _ _ x0 x1).trans ?_
    refine finish m c hp t hi0 hi1 x0 x1 _ _ 3 3 15 _ _ _ _ _ (fun s k x => keys3 m c t _ rfl s k x) (fun s k x => values3 m c t _ rfl s k x)
      (sinkAt m c t 15 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece1 =>
    refine (head14 _ _ _ _ _ _ x0 x1).trans ?_
    refine finish m c hp t hi0 hi1 x0 x1 _ _ 3 2 14 _ _ _ _ _ (fun s k x => keys3 m c t _ rfl s k x) (fun s k x => values3 m c t _ rfl s k x)
      (sinkAt m c t 14 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece2 =>
    refine (head13 _ _ _ _ _ _ x0 x1).trans ?_
    refine finish m c hp t hi0 hi1 x0 x1 _ _ 3 1 13 _ _ _ _ _ (fun s k x => keys3 m c t _ rfl s k x) (fun s k x => values3 m c t _ rfl s k x)
      (sinkAt m c t 13 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece3 =>
    refine (head12 _ _ _ _ _ _ _ _ x0 x1).trans ?_
    refine finish m c hp t hi0 hi1 x0 x1 _ _ 3 0 12 _ _ _ _ _ (fun s k x => keys3 m c t _ rfl s k x) (fun s k x => values3 m c t _ rfl s k x)
      (sinkAt m c t 12 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece4 =>
    refine (head11 _ _ _ _ _ _ x0 x1).trans ?_
    refine finish m c hp t hi0 hi1 x0 x1 _ _ 2 3 11 _ _ _ _ _ (fun s k x => keys2 m c t _ rfl s k x) (fun s k x => values2 m c t _ rfl s k x)
      (sinkAt m c t 11 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece5 =>
    refine (head10 _ _ _ _ _ _ x0 x1).trans ?_
    refine finish m c hp t hi0 hi1 x0 x1 _ _ 2 2 10 _ _ _ _ _ (fun s k x => keys2 m c t _ rfl s k x) (fun s k x => values2 m c t _ rfl s k x)
      (sinkAt m c t 10 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece6 =>
    refine (head9 _ _ _ _ _ _ x0 x1).trans ?_
    refine finish m c hp t hi0 hi1 x0 x1 _ _ 2 1 9 _ _ _ _ _ (fun s k x => keys2 m c t _ rfl s k x) (fun s k x => values2 m c t _ rfl s k x)
      (sinkAt m c t 9 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece7 =>
    refine (head8 _ _ _ _ _ _ x0 x1).trans ?_
    refine finish m c hp t hi0 hi1 x0 x1 _ _ 2 0 8 _ _ _ _ _ (fun s k x => keys2 m c t _ rfl s k x) (fun s k x => values2 m c t _ rfl s k x)
      (sinkAt m c t 8 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece8 =>
    refine (head7 _ _ _ _ _ _ x0 x1).trans ?_
    refine finish m c hp t hi0 hi1 x0 x1 _ _ 1 3 7 _ _ _ _ _ (fun s k x => keys1 m c t _ rfl s k x) (fun s k x => values1 m c t _ rfl s k x)
      (sinkAt m c t 7 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece9 =>
    refine (head6 _ _ _ _ _ _ x0 x1).trans ?_
    refine finish m c hp t hi0 hi1 x0 x1 _ _ 1 2 6 _ _ _ _ _ (fun s k x => keys1 m c t _ rfl s k x) (fun s k x => values1 m c t _ rfl s k x)
      (sinkAt m c t 6 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece10 =>
    refine (head5 _ _ _ _ _ _ x0 x1).trans ?_
    refine finish m c hp t hi0 hi1 x0 x1 _ _ 1 1 5 _ _ _ _ _ (fun s k x => keys1 m c t _ rfl s k x) (fun s k x => values1 m c t _ rfl s k x)
      (sinkAt m c t 5 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece11 =>
    refine (head4 _ _ _ _ _ _ _ _ _ _ x0 x1).trans ?_
    refine finish m c hp t hi0 hi1 x0 x1 _ _ 1 0 4 _ _ _ _ _ (fun s k x => keys1 m c t _ rfl s k x) (fun s k x => values1 m c t _ rfl s k x)
      (sinkAt m c t 4 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece12 =>
    refine (head3 _ _ _ _ _ _ x0 x1).trans ?_
    refine finish m c hp t hi0 hi1 x0 x1 _ _ 0 3 3 _ _ _ _ _ (fun s k x => keys0 m c t _ rfl s k x) (fun s k x => values0 m c t _ rfl s k x)
      (sinkAt m c t 3 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece13 =>
    refine (head2 _ _ _ _ _ _ x0 x1).trans ?_
    refine finish m c hp t hi0 hi1 x0 x1 _ _ 0 2 2 _ _ _ _ _ (fun s k x => keys0 m c t _ rfl s k x) (fun s k x => values0 m c t _ rfl s k x)
      (sinkAt m c t 2 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece14 =>
    refine (head1 _ _ _ _ _ _ x0 x1).trans ?_
    refine finish m c hp t hi0 hi1 x0 x1 _ _ 0 1 1 _ _ _ _ _ (fun s k x => keys0 m c t _ rfl s k x) (fun s k x => values0 m c t _ rfl s k x)
      (sinkAt m c t 1 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)
  case piece15 =>
    refine (head0 _ _ _ _ _ _ _ _ x0 x1).trans ?_
    refine finish m c hp t hi0 hi1 x0 x1 _ _ 0 0 0 _ _ _ _ _ (fun s k x => keys0 m c t _ rfl s k x) (fun s k x => values0 m c t _ rfl s k x)
      (sinkAt m c t 0 _ _) (fun x => ?_) ?_ (by simp only; omega) (by simp only; omega) rfl
    · unfold queryAt
      pointwise
      exact queries m c t _ _ _ _ (by simp only; omega) rfl
    · pointwise
      exact gates m c t _ _ _ _ (by simp only; omega) (by simp only; omega)

/-- The call and the reference's lines end with the same arrays, on every device, from real queries, keys and sinks. -/
theorem algebraic : Cert.algebraic_AttnAIdeal_AttnARefIdeal_pre_finite_a := by
  intro m g m' g' hp h
  refine ⟨fun c => (dats m 0 c).arrAt 9 cfg0.N, Value.run_blocks m g, ?_⟩
  refine (θ_run _ _ _).mono (fun r hr c => ?_) (Cert.AttnARefIdeal.Value.run m' g')
  obtain ⟨r0, hkept⟩ := hr c
  obtain ⟨h0, h1⟩ := h c
  refine ⟨?_, hkept⟩
  refine r0.trans ((Cert.AttnARefIdeal.Read.val_main_v76_eq m' c).trans (Eq.trans ?_ (array m c hp).symm))
  rw [h0, h1]

end Cert.AttnAIdeal.Array

end
-- ==== Proof.AttnBRun.lean ====
/- The neighbourhood attention's two kernels run to the end, and what the result's array then holds. -/
module

public import proofs.«01_k».proof.Proof.Gen.AttnBIdeal.Frame

@[expose] public section

noncomputable section

namespace Cert.AttnBIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBIdeal Cert.AttnBIdeal.Gen

variable {F : FTy → Type} [FloatOps F] [Named F]
variable (m : (ℓ : Loc nD τ sig) → Buf (Elt F) ℓ) (ρ : Dev nD → PrngReg)

local notation "Assertion" => MT nD τ sig Unit (Elt F) ℕ (UR sig nD τ) ℕ

set_option backward.isDefEq.respectTransparency.types false in
/-- Every run of the call ends, and every array outside the kernels' own is then what the segments leave in it. -/
theorem segments : θ_run defs (onTc (τ := τ) (main (F := F))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Assertion)
            ⊢ BI.own (emb₁ (initOf (Pipeline.cells cfgs cellOf_inj) (Pipeline.launchToks cfgs cellOf_inj))) from .rfl)
        iexact Hu
      iapply (show (BI.emp : sProp Assertion) ⊢ bigSep Finset.univ (fun _ : Dev nD => (BI.emp : sProp Assertion)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- Every run of the call ends with the result at what the second kernel writes, and the arguments as they came. -/
theorem run : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (W3_arr m ρ c 5),
     (h c _ (mem_uc main_arg0 (by decide))).trans (W3_main_arg0 m ρ c),
     (h c _ (mem_uc main_arg1 (by decide))).trans (W3_main_arg1 m ρ c)⟩) (segments m ρ)

end Cert.AttnBIdeal.Ends

end
-- ==== Proof.AttnBSpec.lean ====
/- The lines of the neighbourhood attention's reference, read at an index. -/
module

public import proofs.«01_k».proof.Defs
public import proofs.«01_k».proof.Proof.Gen.AttnBRefIdeal.Run
public import proofs.«01_k».proof.Proof.Gen.AttnBRefIdeal.Read
public import proofs.«01_k».proof.Proof.Window
public import Idealize.ShloMosaic.Lib.Pipeline.ValueKit

@[expose] public section

set_option maxRecDepth 16384

noncomputable section

namespace Cert.AttnBRefIdeal.Stage

open Cert.AttnBRefIdeal Cert.AttnBRefIdeal.Gen Idealize.ShloMosaic Idealize.ShloMosaic.TcCoe Idealize.SL.Sem Cert.AttnBRefIdeal.Read Cert.Softmax

/-- The first grid row of a query row's window. -/
def firstRow (r : ℕ) : ℕ := min (r - 4) 24

/-- The first grid column of a query column's window. -/
def firstCol (c : ℕ) : ℕ := min (c - 8) 48

/-- A word between two bounds. -/
def between (lo hi x : BitVec 32) : BitVec 32 := IntOp.minsi hi (IntOp.maxsi lo x)

/-- Whether row `b` is in row `a`'s window, as the reference's lines compute it. -/
def rowWord (a b : BitVec 32) : BitVec 1 :=
  IntOp.andi (IntOp.cmpi CmpIPredicate.sge b (between 0#32 24#32 (IntOp.subi a 4#32)))
    (IntOp.cmpi CmpIPredicate.slt b (IntOp.addi (between 0#32 24#32 (IntOp.subi a 4#32)) 8#32))

/-- A window's first column, as the reference's lines compute it. -/
def colStart (a : BitVec 32) : BitVec 32 := between 0#32 48#32 (IntOp.subi a 8#32)

/-- The offset of two rows, as the reference's lines compute it. -/
def dyWord (a b : BitVec 32) : BitVec 32 := between 0#32 14#32 (IntOp.subi (IntOp.addi (IntOp.subi b a) 8#32) 1#32)

/-- The offset of two columns, as the reference's lines compute it. -/
def dxWord (a b : BitVec 32) : BitVec 32 := between 0#32 30#32 (IntOp.subi (IntOp.addi (IntOp.subi b a) 16#32) 1#32)

/-- An index of an axis of `n`, counted from its end if it is negative. -/
def wrapped (n d : BitVec 32) : BitVec 32 := Scalar.select (IntOp.cmpi CmpIPredicate.slt d 0#32) (IntOp.addi d n) d

/-- The reference's test of a row against another's window of rows. -/
theorem rowWord_eq : ∀ a b : Fin 32, rowWord (BitVec.ofNat 32 a.val) (BitVec.ofNat 32 b.val)
    = if firstRow a.val ≤ b.val ∧ b.val < firstRow a.val + 8 then 1#1 else 0#1 := by
  decide +kernel

/-- The reference's two tests of a column against another's window of columns. -/
theorem colWord_eq : ∀ a b : Fin 64,
    IntOp.cmpi CmpIPredicate.sge (BitVec.ofNat 32 b.val) (colStart (BitVec.ofNat 32 a.val)) = (if firstCol a.val ≤ b.val then 1#1 else 0#1)
    ∧ IntOp.cmpi CmpIPredicate.slt (BitVec.ofNat 32 b.val) (IntOp.addi (colStart (BitVec.ofNat 32 a.val)) 16#32)
      = (if b.val < firstCol a.val + 16 then 1#1 else 0#1) := by
  decide +kernel

/-- The offset of two rows, as the reference looks it up. -/
theorem dyWord_eq : ∀ a b : Fin 32, (wrapped 15#32 (dyWord (BitVec.ofNat 32 a.val) (BitVec.ofNat 32 b.val))).toInt = min 14 (b.val + 7 - a.val : ℕ) := by
  decide +kernel

/-- The offset of two columns, as the reference looks it up. -/
theorem dxWord_eq : ∀ a b : Fin 64, (wrapped 31#32 (dxWord (BitVec.ofNat 32 a.val) (BitVec.ofNat 32 b.val))).toInt = min 30 (b.val + 15 - a.val : ℕ) := by
  decide +kernel

/-- The reference's test of the window, at a query and a key. -/
theorem at47 (q k : Fin 2048) :
    val_main_v47 (F := Ideal) (ix2 q k) = IntOp.andi (IntOp.andi (rowWord (BitVec.ofNat 32 (q.val / 64)) (BitVec.ofNat 32 (k.val / 64)))
      (IntOp.cmpi CmpIPredicate.sge (BitVec.ofNat 32 (k.val % 64)) (colStart (BitVec.ofNat 32 (q.val % 64)))))
      (IntOp.cmpi CmpIPredicate.slt (BitVec.ofNat 32 (k.val % 64)) (IntOp.addi (colStart (BitVec.ofNat 32 (q.val % 64))) 16#32)) := by
  pointwise [rowWord, colStart, between, val_main_v47, val_main_v46, val_main_v45, val_main_v44, val_main_v43, val_main_v42, val_main_c_6, val_main_v41, val_main_v40, val_main_v39, val_main_v38, val_main_v37, val_main_v36, val_main_v35, val_main_v34, val_main_v33, val_main_v32, val_main_v31, val_main_v30, val_main_c_5, val_main_v29, val_main_v28, val_main_v27, val_main_v26, val_main_v25, val_main_v24, val_main_v23, val_main_call1_v4, val_main_call1_v3, val_main_call1_v2, val_main_call1_v1, val_main_call1_v0, val_main_c_4, val_main_c_3, val_main_v22, val_main_v21, val_main_c_2, val_main_v20, val_main_v19, val_main_call0_v4, val_main_call0_v3, val_main_call0_v2, val_main_call0_v1, val_main_call0_v0, val_main_c_1, val_main_c_0, val_main_v18, val_main_v17, val_main_c, val_main_v16, val_main_v15, val_main_v14, val_main_v13, val_main_v12, val_main_v11, val_main_v10, val_main_v9]
  rfl

/-- The rows' offset, at a query and a key. -/
theorem at57 (q k : Fin 2048) : val_main_v57 (F := Ideal) (ix2 q k) = dyWord (BitVec.ofNat 32 (q.val / 64)) (BitVec.ofNat 32 (k.val / 64)) := by
  pointwise [dyWord, between, val_main_v16, val_main_v15, val_main_v14, val_main_v13, val_main_v12, val_main_v11, val_main_v10, val_main_v9, val_main_v57, val_main_call2_v4, val_main_call2_v3, val_main_call2_v2, val_main_call2_v1, val_main_call2_v0, val_main_c_10, val_main_c_9, val_main_v56, val_main_v55, val_main_c_8, val_main_v54, val_main_v53, val_main_c_7, val_main_v52, val_main_v51, val_main_v50, val_main_v49, val_main_v48]
  rfl

/-- The columns' offset, at a query and a key. -/
theorem at67 (q k : Fin 2048) : val_main_v67 (F := Ideal) (ix2 q k) = dxWord (BitVec.ofNat 32 (q.val % 64)) (BitVec.ofNat 32 (k.val % 64)) := by
  pointwise [dxWord, between, val_main_v16, val_main_v15, val_main_v14, val_main_v13, val_main_v12, val_main_v11, val_main_v10, val_main_v9, val_main_v67, val_main_call3_v4, val_main_call3_v3, val_main_call3_v2, val_main_call3_v1, val_main_call3_v0, val_main_c_14, val_main_c_13, val_main_v66, val_main_v65, val_main_c_12, val_main_v64, val_main_v63, val_main_c_11, val_main_v62, val_main_v61, val_main_v60, val_main_v59, val_main_v58]
  rfl

/-- The looked up row offset. -/
theorem at83_row (q k : Fin 2048) :
    val_main_v83 (F := Ideal) (ix3 q k 0) = wrapped 15#32 (val_main_v57 (F := Ideal) (ix2 q k)) := by
  unfold val_main_v83 val_main_v81 val_main_v75 val_main_v74 val_main_v73 val_main_c_16 val_main_v72 val_main_v71 val_main_c_15 val_main_v82
  generalize val_main_v57 (F := Ideal) = A
  generalize val_main_v80 (F := Ideal) = B
  pointwise [wrapped]

/-- The looked up column offset. -/
theorem at83_col (q k : Fin 2048) :
    val_main_v83 (F := Ideal) (ix3 q k 1) = wrapped 31#32 (val_main_v67 (F := Ideal) (ix2 q k)) := by
  unfold val_main_v83 val_main_v82 val_main_v80 val_main_v79 val_main_v78 val_main_c_18 val_main_v77 val_main_v76 val_main_c_17 val_main_v81
  generalize val_main_v67 (F := Ideal) = A
  generalize val_main_v75 (F := Ideal) = B
  pointwise [wrapped]

/-- Whether a key is in a query's window. -/
def Inside (q k : ℕ) : Prop :=
  (firstRow (q / 64) ≤ k / 64 ∧ k / 64 < firstRow (q / 64) + 8) ∧ firstCol (q % 64) ≤ k % 64 ∧ k % 64 < firstCol (q % 64) + 16

instance (q k : ℕ) : Decidable (Inside q k) := by unfold Inside; infer_instance

/-- The reference's test is whether the key is in the query's window. -/
theorem inside_eq (q k : Fin 2048) : val_main_v47 (F := Ideal) (ix2 q k) = if Inside q.val k.val then 1#1 else 0#1 := by
  have hr := rowWord_eq ⟨q.val / 64, by omega⟩ ⟨k.val / 64, by omega⟩
  have hc := colWord_eq ⟨q.val % 64, by omega⟩ ⟨k.val % 64, by omega⟩
  simp only at hr hc
  rw [at47, hr, hc.1, hc.2]
  unfold Inside
  by_cases h1 : firstRow (q.val / 64) ≤ k.val / 64 ∧ k.val / 64 < firstRow (q.val / 64) + 8 <;>
    by_cases h2 : firstCol (q.val % 64) ≤ k.val % 64 <;>
    by_cases h3 : k.val % 64 < firstCol (q.val % 64) + 16 <;>
    simp only [h1, h2, h3, and_self, and_true, true_and, and_false, false_and, if_true, if_false] <;> rfl

/-- The bias of a head, at a pair of positions. -/
def biasAt (R : S16x15x31.Idx → EReal) (h : Fin 16) (q k : ℕ) : EReal :=
  R (ix3 h ⟨min 14 (k / 64 + 7 - q / 64), by omega⟩ ⟨min 30 (k % 64 + 15 - q % 64), by omega⟩)

/-- The table's entry that two words pick for a head. -/
theorem picked (R : S16x15x31.Idx → EReal) (idx : IVec S2048x2048x2 32) (h : Fin 16) (q k : Fin 2048) (y : Fin 15) (x : Fin 31)
    (hy : (idx (ix3 q k 0)).toInt = y.val) (hx : (idx (ix3 q k 1)).toInt = x.val) :
    Host.gather gather_S16x15x31_S2048x2048x2_S16x2048x2048_0_12_n_n_12_2_1611 R idx (ix3 h q k) = R (ix3 h y x) := by
  unfold Host.gather
  refine congrArg R (funext fun a => Fin.ext ?_)
  show GatherDims.start _ _ idx a + GatherDims.batchCoord _ _ a + GatherDims.offCoord _ _ a = _
  match a with
  | ⟨0, _⟩ =>
    rw [GatherDims.batchCoord_eq_zero _ _ _ List.not_mem_nil]
    unfold GatherDims.start
    split_ifs with hm
    · exact absurd (show (0 : Fin 3) ∈ [(1 : Fin 3), 2] from hm) (by decide)
    · simp only [Nat.zero_add, Nat.add_zero]
      rfl
  | ⟨1, _⟩ =>
    rw [GatherDims.batchCoord_eq_zero _ _ _ List.not_mem_nil,
      GatherDims.offCoord_eq_zero _ _ _ (fun e => ((GatherDims.mem_sKept _ _).mp e).1 (show (1 : Fin 3) ∈ [(1 : Fin 3), 2] by decide))]
    unfold GatherDims.start
    split_ifs with hm
    · have e : (GatherDims.siIdx gather_S16x15x31_S2048x2048x2_S16x2048x2048_0_12_n_n_12_2_1611 (ix3 h q k) ⟨0, by decide⟩) = ix3 q k 0 := by
        funext b
        match b with
        | ⟨0, _⟩ => rfl
        | ⟨1, _⟩ => rfl
        | ⟨2, _⟩ => rfl
      show min (idx (GatherDims.siIdx gather_S16x15x31_S2048x2048x2_S16x2048x2048_0_12_n_n_12_2_1611 (ix3 h q k) ⟨0, by decide⟩)).toInt.toNat 14 + 0 + 0 = y.val
      rw [e, hy]
      have := y.isLt
      simp only [Int.toNat_natCast]
      omega
    · exact absurd (show (1 : Fin 3) ∈ [(1 : Fin 3), 2] by decide) hm
  | ⟨2, _⟩ =>
    rw [GatherDims.batchCoord_eq_zero _ _ _ List.not_mem_nil,
      GatherDims.offCoord_eq_zero _ _ _ (fun e => ((GatherDims.mem_sKept _ _).mp e).1 (show (2 : Fin 3) ∈ [(1 : Fin 3), 2] by decide))]
    unfold GatherDims.start
    split_ifs with hm
    · have e : (GatherDims.siIdx gather_S16x15x31_S2048x2048x2_S16x2048x2048_0_12_n_n_12_2_1611 (ix3 h q k) ⟨1, by decide⟩) = ix3 q k 1 := by
        funext b
        match b with
        | ⟨0, _⟩ => rfl
        | ⟨1, _⟩ => rfl
        | ⟨2, _⟩ => rfl
      show min (idx (GatherDims.siIdx gather_S16x15x31_S2048x2048x2_S16x2048x2048_0_12_n_n_12_2_1611 (ix3 h q k) ⟨1, by decide⟩)).toInt.toNat 30 + 0 + 0 = x.val
      rw [e, hx]
      have := x.isLt
      simp only [Int.toNat_natCast]
      omega
    · exact absurd (show (2 : Fin 3) ∈ [(1 : Fin 3), 2] by decide) hm

/-- The bias looked up for a query and a key. -/
theorem at84 (R : S16x15x31.Idx → EReal) (h : Fin 16) (q k : Fin 2048) :
    val_main_v84 (F := Ideal) R (ix3 h q k) = biasAt R h q.val k.val := by
  refine picked R _ h q k _ _ ?_ ?_
  · rw [at83_row, at57]
    exact dyWord_eq ⟨q.val / 64, by omega⟩ ⟨k.val / 64, by omega⟩
  · rw [at83_col, at67]
    exact dxWord_eq ⟨q.val % 64, by omega⟩ ⟨k.val % 64, by omega⟩

/-- A query's column among the projections. -/
def queryAt (P : S8192x8192.Idx → EReal) (b : Fin 4) (h : Fin 16) (t : Fin 2048) (x : Fin 128) : EReal :=
  P (ix2 ⟨b.val * 2048 + t.val, by omega⟩ ⟨h.val * 128 + x.val, by omega⟩)

/-- A key's. -/
def keyAt (P : S8192x8192.Idx → EReal) (b : Fin 4) (h : Fin 16) (s : Fin 2048) (x : Fin 128) : EReal :=
  P (ix2 ⟨b.val * 2048 + s.val, by omega⟩ ⟨2048 + (h.val * 128 + x.val), by omega⟩)

/-- A value's. -/
def valueAt (P : S8192x8192.Idx → EReal) (b : Fin 4) (h : Fin 16) (x : Fin 128) (s : Fin 2048) : EReal :=
  P (ix2 ⟨b.val * 2048 + s.val, by omega⟩ ⟨4096 + (h.val * 128 + x.val), by omega⟩)

/-- A query's and a key's product, scaled. -/
def product (P : S8192x8192.Idx → EReal) (b : Fin 4) (h : Fin 16) (t s : Fin 2048) : EReal :=
  (∑ x : Fin 128, queryAt P b h t x * keyAt P b h s x) * Ideal.ofBits FTy.f32 1035273459#32

/-- The score of query `t` and key `s` of batch `b` and head `h`. -/
def score (P : S8192x8192.Idx → EReal) (R : S16x15x31.Idx → EReal) (b : Fin 4) (h : Fin 16) (t s : Fin 2048) : EReal :=
  if Inside t.val s.val then product P b h t s + biasAt R h t.val s.val else ⊥

/-- A head's gated output. -/
def gated (o g : EReal) : EReal := o * (g * Ideal.logistic g)

/-- The scaled product of a query and a key. -/
theorem at70 (P : S8192x8192.Idx → EReal) (b : Fin 4) (h : Fin 16) (t s : Fin 2048) :
    val_main_v70 (F := Ideal) P (ix4 b h t s) = product P b h t s := by
  pointwise [product, queryAt, keyAt, val_main_v70, val_main_v69, val_main_v68, val_main_cst, val_main_v7, val_main_v6, val_main_v3, val_main_v2, val_main_v1, val_main_v0]

/-- The bias, the same for every batch. -/
theorem at86 (R : S16x15x31.Idx → EReal) (b : Fin 4) (h : Fin 16) (t s : Fin 2048) :
    val_main_v86 (F := Ideal) R (ix4 b h t s) = biasAt R h t.val s.val := by
  rw [← at84]
  unfold val_main_v86 val_main_v85
  generalize val_main_v84 (F := Ideal) R = A
  pointwise

/-- A choice between a sum and an array, at an index. -/
theorem choice_at (c : IVec S4x16x2048x2048 1) (A B D : FVec Ideal S4x16x2048x2048 .f32) (i : S4x16x2048x2048.Idx) :
    select c (addf A B) D i = Scalar.select (c i) ((A i : EReal) + (B i : EReal)) (D i : EReal) := rfl

/-- The window's test, the same for every batch and head. -/
theorem at_mask (b : Fin 4) (h : Fin 16) (t s : Fin 2048) :
    val_main_call4_v1 (F := Ideal) (ix4 b h t s) = if Inside t.val s.val then 1#1 else 0#1 := by
  rw [← inside_eq]
  unfold val_main_call4_v1
  generalize val_main_v47 (F := Ideal) = A
  pointwise

/-- The mask's value. -/
theorem at_low (b : Fin 4) (h : Fin 16) (t s : Fin 2048) : val_main_call4_v2 (F := Ideal) (ix4 b h t s) = (⊥ : EReal) := by
  rw [← lowest]
  pointwise [val_main_call4_v2, val_main_call4_v0, val_main_cst_19]
  rfl

/-- The masked score. -/
theorem at88 (P : S8192x8192.Idx → EReal) (R : S16x15x31.Idx → EReal) (b : Fin 4) (h : Fin 16) (t s : Fin 2048) :
    val_main_v88 (F := Ideal) P R (ix4 b h t s) = score P R b h t s := by
  unfold val_main_v88 val_main_v87
  refine (choice_at _ _ _ _ _).trans ?_
  rw [at_mask, at70, at86, at_low, score]
  by_cases e : Inside t.val s.val
  · rw [if_pos e, if_pos e]; rfl
  · rw [if_neg e, if_neg e]; rfl

/-- A query's largest score. -/
theorem at89 (P : S8192x8192.Idx → EReal) (R : S16x15x31.Idx → EReal) (b : Fin 4) (h : Fin 16) (t : Fin 2048) :
    val_main_v89 (F := Ideal) P R (ix3 b h t) = peak (score P R b h t) := by
  pointwise [val_main_v89, val_main_cst_20]
  rw [lowest]
  exact congrArg (fun f => Finset.fold max ⊥ f Finset.univ) (funext fun s => at88 P R b h t s)

/-- The least number that the maximum starts from. -/
theorem at90 (b : Fin 4) (h : Fin 16) (t : Fin 2048) : val_main_v90 (F := Ideal) (ix3 b h t) = (⊥ : EReal) := by
  rw [← lowest]
  pointwise [val_main_v90, val_main_cst_21]

/-- The larger of two arrays, at an index. -/
theorem max_at (A B : FVec Ideal S4x16x2048 .f32) (i : S4x16x2048.Idx) : maximumf A B i = (max (A i : EReal) (B i : EReal) : EReal) := rfl

/-- The maximum with the least number is the largest score. -/
theorem at91 (P : S8192x8192.Idx → EReal) (R : S16x15x31.Idx → EReal) (b : Fin 4) (h : Fin 16) (t : Fin 2048) :
    val_main_v91 (F := Ideal) P R (ix3 b h t) = peak (score P R b h t) := by
  unfold val_main_v91
  refine (max_at _ _ _).trans ?_
  rw [at90, at89]
  exact max_eq_right bot_le

/-- The largest score, spread over the keys. -/
theorem at93 (P : S8192x8192.Idx → EReal) (R : S16x15x31.Idx → EReal) (b : Fin 4) (h : Fin 16) (t s : Fin 2048) :
    val_main_v93 (F := Ideal) P R (ix4 b h t s) = val_main_v91 (F := Ideal) P R (ix3 b h t) := by
  unfold val_main_v93 val_main_v92
  generalize val_main_v91 (F := Ideal) P R = A
  pointwise

/-- The exponential of a difference of arrays, at an index. -/
theorem exp_sub_at (A B : FVec Ideal S4x16x2048x2048 .f32) (i : S4x16x2048x2048.Idx) :
    Host.exp (subf A B) i = (Ideal.exp ((A i : EReal) - (B i : EReal)) : EReal) := rfl

/-- A key's weight before the division. -/
theorem at95 (P : S8192x8192.Idx → EReal) (R : S16x15x31.Idx → EReal) (b : Fin 4) (h : Fin 16) (t s : Fin 2048) :
    val_main_v95 (F := Ideal) P R (ix4 b h t s) = weight (score P R b h t) s := by
  unfold val_main_v95 val_main_v94
  refine (exp_sub_at _ _ _).trans ?_
  rw [at93, at91, at88]
  rfl

/-- A query's sum of weights. -/
theorem at96 (P : S8192x8192.Idx → EReal) (R : S16x15x31.Idx → EReal) (b : Fin 4) (h : Fin 16) (t : Fin 2048) :
    val_main_v96 (F := Ideal) P R (ix3 b h t) = total (score P R b h t) := by
  pointwise [val_main_v96, val_main_cst_22]
  exact Finset.sum_congr rfl fun s _ => at95 P R b h t s

/-- The sum of weights, spread over the keys. -/
theorem at98 (P : S8192x8192.Idx → EReal) (R : S16x15x31.Idx → EReal) (b : Fin 4) (h : Fin 16) (t s : Fin 2048) :
    val_main_v98 (F := Ideal) P R (ix4 b h t s) = val_main_v96 (F := Ideal) P R (ix3 b h t) := by
  unfold val_main_v98 val_main_v97
  generalize val_main_v96 (F := Ideal) P R = A
  pointwise

/-- A quotient of arrays, at an index. -/
theorem div_at (A B : FVec Ideal S4x16x2048x2048 .f32) (i : S4x16x2048x2048.Idx) :
    Host.divf A B i = (Ideal.div (A i : EReal) (B i : EReal) : EReal) := rfl

/-- The softmax's weight. -/
theorem at99 (P : S8192x8192.Idx → EReal) (R : S16x15x31.Idx → EReal) (b : Fin 4) (h : Fin 16) (t s : Fin 2048) :
    val_main_v99 (F := Ideal) P R (ix4 b h t s) = soft (score P R b h t) s := by
  unfold val_main_v99
  refine (div_at _ _ _).trans ?_
  rw [at95, at98, at96]
  rfl

/-- The softmax's mix of the values. -/
theorem at101 (P : S8192x8192.Idx → EReal) (R : S16x15x31.Idx → EReal) (b : Fin 4) (h : Fin 16) (t : Fin 2048) (x : Fin 128) :
    val_main_v101 (F := Ideal) P R (ix4 b t h x) = ∑ s : Fin 2048, valueAt P b h x s * soft (score P R b h t) s := by
  pointwise [valueAt, val_main_v101, val_main_v100, val_main_v8, val_main_v4, val_main_v1, val_main_v0]
  refine Finset.sum_congr rfl fun s _ => ?_
  rw [at99]

/-- The reference's result at an index. -/
theorem at106 (P : S8192x8192.Idx → EReal) (R : S16x15x31.Idx → EReal) (r : Fin 8192) (c : Fin 2048)
    (b : Fin 4) (h : Fin 16) (t : Fin 2048) (x : Fin 128) (hr : r.val = b.val * 2048 + t.val) (hc : c.val = h.val * 128 + x.val) :
    val_main_v106 (F := Ideal) P R (ix2 r c)
      = gated (∑ s : Fin 2048, valueAt P b h x s * soft (score P R b h t) s) (P (ix2 r ⟨6144 + c.val, by omega⟩)) := by
  pointwise [Ideal.logistic, gated, val_main_v106, val_main_v105, val_main_v104, val_main_v103, val_main_v102, val_main_call5_v5, val_main_call5_v4, val_main_call5_v3, val_main_call5_v2, val_main_call5_v1, val_main_call5_v0, val_main_call5_cst, val_main_call5_cst_0, val_main_v5, val_main_v1, val_main_v0]
  simp only [at101]
  have e0 : r.val / 2048 = b.val := by omega
  have e1 : r.val % 2048 = t.val := by omega
  have e2 : c.val / 128 = h.val := by omega
  have e3 : c.val % 128 = x.val := by omega
  simp only [e0, e1, e2, e3, Fin.eta]

end Cert.AttnBRefIdeal.Stage

end
-- ==== Proof.AttnBTable.lean ====
/- The table of the biases, as the first kernel writes it. -/
module

public import proofs.«01_k».proof.Proof.AttnBSpec
public import proofs.«01_k».proof.Proof.Gen.AttnBIdeal.Frame
public import Idealize.ShloMosaic.Lib.Pipeline.ValueKit

@[expose] public section

set_option maxRecDepth 16384

noncomputable section

namespace Cert.AttnBIdeal.Table

open Cert.AttnBIdeal Cert.AttnBIdeal.Gen Idealize.ShloMosaic Idealize.ShloMosaic.TcCoe Idealize.SL.Sem
open Cert.AttnBRefIdeal.Stage (firstRow firstCol)

/-- The named constant is minus infinity. -/
theorem mask : Named.named (F := Ideal) (φ := FTy.f32) κ "mask" 0xF149F2CA#32 = (⊥ : EReal) :=
  IdealRules.named_const.ideal_named_scalar _ _ _ _ rfl

/-- One of the numbers `f`, picked by comparing a word with every position in turn. -/
def picks (f : Fin 31 → EReal) (w : BitVec 32) : (n : ℕ) → n ≤ 31 → EReal
  | 0, _ => FloatOps.ofBits (F := Ideal) FTy.f32 0#32
  | n + 1, h => Scalar.select (IntOp.cmpi CmpIPredicate.eq w (BitVec.ofNat 32 n)) (f ⟨n, h⟩) (picks f w n (Nat.le_of_succ_le h))

/-- Comparing two positions' words compares the positions. -/
theorem same : ∀ d n : Fin 31, IntOp.cmpi CmpIPredicate.eq (BitVec.ofNat 32 d.val) (BitVec.ofNat 32 n.val) = if d = n then 1#1 else 0#1 := by
  decide +kernel

/-- The number at the word's position. -/
theorem picks_eq (f : Fin 31 → EReal) (d : Fin 31) : ∀ (n : ℕ) (h : n ≤ 31), d.val < n → picks f (BitVec.ofNat 32 d.val) n h = f d
  | 0, _, hd => absurd hd (Nat.not_lt_zero _)
  | n + 1, h, hd => by
    have e := same d ⟨n, h⟩
    simp only at e
    rw [picks, e]
    by_cases hn : d = ⟨n, h⟩
    · rw [if_pos hn, ← hn]; rfl
    · rw [if_neg hn]
      have : d.val ≠ n := fun q => hn (Fin.ext q)
      exact picks_eq f d n _ (by omega)

/-- The offset of two columns, in the kernel's words. -/
theorem off_eq (a b : Fin 64) : k0_pay3 (ix2 a b) = BitVec.ofNat 32 (min 30 (b.val + 15 - a.val)) := by
  have key : ∀ a b : Fin 64, IntOp.minsi 30#32 (IntOp.maxsi 0#32 (IntOp.subi (IntOp.addi (IntOp.subi (BitVec.ofNat 32 b.val) (BitVec.ofNat 32 a.val)) 16#32) 1#32))
      = BitVec.ofNat 32 (min 30 (b.val + 15 - a.val)) := by decide +kernel
  rw [← key]
  pointwise [k0_pay3]

/-- Whether a column is in another's window, in the kernel's words. -/
theorem valid_eq (a b : Fin 64) : k0_pay4 (ix2 a b) = if firstCol a.val ≤ b.val ∧ b.val < firstCol a.val + 16 then 1#1 else 0#1 := by
  have key : ∀ a b : Fin 64, IntOp.andi (IntOp.cmpi CmpIPredicate.sge (BitVec.ofNat 32 b.val) (IntOp.minsi 48#32 (IntOp.maxsi 0#32 (IntOp.subi (BitVec.ofNat 32 a.val) 8#32))))
      (IntOp.cmpi CmpIPredicate.slt (BitVec.ofNat 32 b.val) (IntOp.addi (IntOp.minsi 48#32 (IntOp.maxsi 0#32 (IntOp.subi (BitVec.ofNat 32 a.val) 8#32))) 16#32))
      = if firstCol a.val ≤ b.val ∧ b.val < firstCol a.val + 16 then 1#1 else 0#1 := by decide +kernel
  rw [← key]
  pointwise [k0_pay4]

/-- The biases of one offset of the rows, at a pair of columns: minus infinity outside the window. -/
def tile (x0 : Vec Ideal S7440 .f32) (i : grid0.Coords) (y : Fin 15) (a b : Fin 64) : EReal :=
  if firstCol a.val ≤ b.val ∧ b.val < firstCol a.val + 16 then x0 (ix1 ⟨465 * (i 0).val + 31 * y.val + min 30 (b.val + 15 - a.val), by have h : (i 0).val < 16 := (i 0).isLt; omega⟩) else ⊥

/-- Where a bias lies among all of them, in the kernel's words. -/
theorem place : ∀ (h : Fin 16) (y : Fin 15) (d : Fin 31),
    (Scalar.indexCast (Scalar.addi (Scalar.addi (Scalar.muli (BitVec.ofNat 32 h.val) 465#32) (BitVec.ofNat 32 (31 * y.val))) (BitVec.ofNat 32 d.val))).toNat
      = 465 * h.val + 31 * y.val + d.val := by
  decide +kernel

/-- One number read from the biases. -/
theorem at_one (x0 : Vec Ideal S7440 .f32) (i : grid0.Coords) (p q : BitVec 32) (h : ∀ a, k0_off1 i p q a + ![1] a ≤ S7440.size a) (h' : _) :
    View.ld x0 (Rect.unit (s := S7440) (k0_off1 i p q) ![1] h) (Shape.Idx.first h') = x0 (ix1 ⟨k0_off1 i p q 0, h 0⟩) := by
  refine View.ld_unit_apply_of _ _ _ _ _ _ fun a => ?_
  obtain rfl : a = 0 := Subsingleton.elim _ _
  rfl

/-- The kernel's chain of choices is the tile. -/
theorem chosen (x0 : Vec Ideal S7440 .f32) (i : grid0.Coords) (y : Fin 15) (a b : Fin 64) :
    Scalar.select (k0_pay4 (ix2 a b))
      (picks (fun d => x0 (ix1 ⟨k0_off1 i (BitVec.ofNat 32 (31 * y.val)) (BitVec.ofNat 32 d.val) 0, k0_off1_inb i y d 0⟩)) (k0_pay3 (ix2 a b)) 31 le_rfl)
      (Named.named (F := Ideal) (φ := FTy.f32) κ "mask" 0xF149F2CA#32 : EReal) = tile x0 i y a b := by
  rw [off_eq, valid_eq, mask]
  show _ = if firstCol a.val ≤ b.val ∧ b.val < firstCol a.val + 16 then x0 (ix1 ⟨465 * (i 0).val + 31 * y.val + min 30 (b.val + 15 - a.val), by have h : (i 0).val < 16 := (i 0).isLt; omega⟩) else ⊥
  by_cases e : firstCol a.val ≤ b.val ∧ b.val < firstCol a.val + 16
  · rw [if_pos e, if_pos e]
    refine (picks_eq _ ⟨min 30 (b.val + 15 - a.val), by omega⟩ 31 le_rfl (by simp only; omega)).trans ?_
    exact congrArg (fun n => x0 n) (congrArg ix1 (Fin.ext (place (i 0) y ⟨min 30 (b.val + 15 - a.val), by omega⟩)))
  · rw [if_neg e, if_neg e]; rfl

/-- One choice of the chain, as the kernel makes it. -/
theorem step (f : Fin 31 → EReal) (n : ℕ) (h : n + 1 ≤ 31) (D : IVec S64x64 32) (j : S64x64.Idx) (e : EReal) (rest : FVec Ideal S64x64 .f32)
    (he : e = f ⟨n, h⟩) (hr : rest j = picks f (D j) n (Nat.le_of_succ_le h)) :
    select (cmpi CmpIPredicate.eq D (broadcast S64x64 (BitVec.ofNat 32 n))) (broadcast S64x64 (α := EReal) e) rest j = picks f (D j) (n + 1) h := by
  subst he
  show Scalar.select _ _ (rest j) = _
  rw [hr]; rfl

/-- The biases of row offset 0, as the kernel computes them. -/
theorem tile0 (c : Dev nD) (i : grid0.Coords) (arg1 : Memref sig .tc .smem S7440 .f32) (harg1 : arg1.IsWhole) (x0 : Vec Ideal S7440 .f32) (a b : Fin 64) :
    kernelRun0_A.sl.r_34 c i arg1 harg1 x0 (ix2 a b) = tile x0 i 0 a b := by
  frame_out
  refine Eq.trans ?_ (chosen x0 i 0 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 1, as the kernel computes them. -/
theorem tile1 (c : Dev nD) (i : grid0.Coords) (arg1 : Memref sig .tc .smem S7440 .f32) (harg1 : arg1.IsWhole) (x0 : Vec Ideal S7440 .f32) (a b : Fin 64) :
    kernelRun0_A.sl.r_69 c i arg1 harg1 x0 (ix2 a b) = tile x0 i 1 a b := by
  frame_out
  refine Eq.trans ?_ (chosen x0 i 1 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 2, as the kernel computes them. -/
theorem tile2 (c : Dev nD) (i : grid0.Coords) (arg1 : Memref sig .tc .smem S7440 .f32) (harg1 : arg1.IsWhole) (x0 : Vec Ideal S7440 .f32) (a b : Fin 64) :
    kernelRun0_A.sl.r_97 c i arg1 harg1 x0 (ix2 a b) = tile x0 i 2 a b := by
  frame_out
  refine Eq.trans ?_ (chosen x0 i 2 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 3, as the kernel computes them. -/
theorem tile3 (c : Dev nD) (i : grid0.Coords) (arg1 : Memref sig .tc .smem S7440 .f32) (harg1 : arg1.IsWhole) (x0 : Vec Ideal S7440 .f32) (a b : Fin 64) :
    kernelRun0_A.sl.r_131 c i arg1 harg1 x0 (ix2 a b) = tile x0 i 3 a b := by
  frame_out
  refine Eq.trans ?_ (chosen x0 i 3 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 4, as the kernel computes them. -/
theorem tile4 (c : Dev nD) (i : grid0.Coords) (arg1 : Memref sig .tc .smem S7440 .f32) (harg1 : arg1.IsWhole) (x0 : Vec Ideal S7440 .f32) (a b : Fin 64) :
    kernelRun0_A.sl.r_166 c i arg1 harg1 x0 (ix2 a b) = tile x0 i 4 a b := by
  frame_out
  refine Eq.trans ?_ (chosen x0 i 4 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 5, as the kernel computes them. -/
theorem tile5 (c : Dev nD) (i : grid0.Coords) (arg1 : Memref sig .tc .smem S7440 .f32) (harg1 : arg1.IsWhole) (x0 : Vec Ideal S7440 .f32) (a b : Fin 64) :
    kernelRun0_A.sl.r_200 c i arg1 harg1 x0 (ix2 a b) = tile x0 i 5 a b := by
  frame_out
  refine Eq.trans ?_ (chosen x0 i 5 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 6, as the kernel computes them. -/
theorem tile6 (c : Dev nD) (i : grid0.Coords) (arg1 : Memref sig .tc .smem S7440 .f32) (harg1 : arg1.IsWhole) (x0 : Vec Ideal S7440 .f32) (a b : Fin 64) :
    kernelRun0_A.sl.r_229 c i arg1 harg1 x0 (ix2 a b) = tile x0 i 6 a b := by
  frame_out
  refine Eq.trans ?_ (chosen x0 i 6 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 7, as the kernel computes them. -/
theorem tile7 (c : Dev nD) (i : grid0.Coords) (arg1 : Memref sig .tc .smem S7440 .f32) (harg1 : arg1.IsWhole) (x0 : Vec Ideal S7440 .f32) (a b : Fin 64) :
    kernelRun0_A.sl.r_262 c i arg1 harg1 x0 (ix2 a b) = tile x0 i 7 a b := by
  frame_out
  refine Eq.trans ?_ (chosen x0 i 7 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 8, as the kernel computes them. -/
theorem tile8 (c : Dev nD) (i : grid0.Coords) (arg1 : Memref sig .tc .smem S7440 .f32) (harg1 : arg1.IsWhole) (x0 : Vec Ideal S7440 .f32) (a b : Fin 64) :
    kernelRun0_A.sl.r_297 c i arg1 harg1 x0 (ix2 a b) = tile x0 i 8 a b := by
  frame_out
  refine Eq.trans ?_ (chosen x0 i 8 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 9, as the kernel computes them. -/
theorem tile9 (c : Dev nD) (i : grid0.Coords) (arg1 : Memref sig .tc .smem S7440 .f32) (harg1 : arg1.IsWhole) (x0 : Vec Ideal S7440 .f32) (a b : Fin 64) :
    kernelRun0_A.sl.r_331 c i arg1 harg1 x0 (ix2 a b) = tile x0 i 9 a b := by
  frame_out
  refine Eq.trans ?_ (chosen x0 i 9 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 10, as the kernel computes them. -/
theorem tile10 (c : Dev nD) (i : grid0.Coords) (arg1 : Memref sig .tc .smem S7440 .f32) (harg1 : arg1.IsWhole) (x0 : Vec Ideal S7440 .f32) (a b : Fin 64) :
    kernelRun0_A.sl.r_364 c i arg1 harg1 x0 (ix2 a b) = tile x0 i 10 a b := by
  frame_out
  refine Eq.trans ?_ (chosen x0 i 10 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 11, as the kernel computes them. -/
theorem tile11 (c : Dev nD) (i : grid0.Coords) (arg1 : Memref sig .tc .smem S7440 .f32) (harg1 : arg1.IsWhole) (x0 : Vec Ideal S7440 .f32) (a b : Fin 64) :
    kernelRun0_A.sl.r_402 c i arg1 harg1 x0 (ix2 a b) = tile x0 i 11 a b := by
  frame_out
  refine Eq.trans ?_ (chosen x0 i 11 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 12, as the kernel computes them. -/
theorem tile12 (c : Dev nD) (i : grid0.Coords) (arg1 : Memref sig .tc .smem S7440 .f32) (harg1 : arg1.IsWhole) (x0 : Vec Ideal S7440 .f32) (a b : Fin 64) :
    kernelRun0_A.sl.r_441 c i arg1 harg1 x0 (ix2 a b) = tile x0 i 12 a b := by
  frame_out
  refine Eq.trans ?_ (chosen x0 i 12 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 13, as the kernel computes them. -/
theorem tile13 (c : Dev nD) (i : grid0.Coords) (arg1 : Memref sig .tc .smem S7440 .f32) (harg1 : arg1.IsWhole) (x0 : Vec Ideal S7440 .f32) (a b : Fin 64) :
    kernelRun0_A.sl.r_481 c i arg1 harg1 x0 (ix2 a b) = tile x0 i 13 a b := by
  frame_out
  refine Eq.trans ?_ (chosen x0 i 13 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- The biases of row offset 14, as the kernel computes them. -/
theorem tile14 (c : Dev nD) (i : grid0.Coords) (arg1 : Memref sig .tc .smem S7440 .f32) (harg1 : arg1.IsWhole) (x0 : Vec Ideal S7440 .f32) (a b : Fin 64) :
    kernelRun0_A.sl.r_516 c i arg1 harg1 x0 (ix2 a b) = tile x0 i 14 a b := by
  frame_out
  refine Eq.trans ?_ (chosen x0 i 14 a b)
  refine congrArg (fun z => Scalar.select (k0_pay4 (ix2 a b)) z (Named.named (F := Ideal) (φ := FTy.f32) κ "mask" 0xF149F2CA#32 : EReal)) ?_
  iterate 31 refine step _ _ _ _ _ _ _ (at_one x0 i _ _ _ _) ?_
  rfl

/-- Eight tiles side by side. -/
theorem eight (x0 : Vec Ideal S7440 .f32) (i : grid0.Coords) (v : Fin 8) (A0 A1 A2 A3 A4 A5 A6 A7 : FVec Ideal S64x64 .f32)
    (h0 : ∀ a b, A0 (ix2 a b) = tile x0 i ⟨v.val + 0, by omega⟩ a b) (h1 : ∀ a b, A1 (ix2 a b) = tile x0 i ⟨v.val + 1, by omega⟩ a b)
    (h2 : ∀ a b, A2 (ix2 a b) = tile x0 i ⟨v.val + 2, by omega⟩ a b) (h3 : ∀ a b, A3 (ix2 a b) = tile x0 i ⟨v.val + 3, by omega⟩ a b)
    (h4 : ∀ a b, A4 (ix2 a b) = tile x0 i ⟨v.val + 4, by omega⟩ a b) (h5 : ∀ a b, A5 (ix2 a b) = tile x0 i ⟨v.val + 5, by omega⟩ a b)
    (h6 : ∀ a b, A6 (ix2 a b) = tile x0 i ⟨v.val + 6, by omega⟩ a b) (h7 : ∀ a b, A7 (ix2 a b) = tile x0 i ⟨v.val + 7, by omega⟩ a b)
    (a : Fin 64) (k : Fin 512) :
    k0_pay184 A0 A1 A2 A3 A4 A5 A6 A7 (ix4 0 0 a k) = tile x0 i ⟨v.val + k.val / 64, by omega⟩ a ⟨k.val % 64, by omega⟩ := by
  pointwise [k0_pay184]
  by_cases e0 : k.val < 64
  · rw [dif_pos e0]
    refine (h0 _ _).trans ?_
    congr 2 <;> omega
  rw [dif_neg e0]
  by_cases e1 : k.val - 64 < 64
  · rw [dif_pos e1]
    refine (h1 _ _).trans ?_
    congr 2 <;> omega
  rw [dif_neg e1]
  by_cases e2 : k.val - 64 - 64 < 64
  · rw [dif_pos e2]
    refine (h2 _ _).trans ?_
    congr 2 <;> omega
  rw [dif_neg e2]
  by_cases e3 : k.val - 64 - 64 - 64 < 64
  · rw [dif_pos e3]
    refine (h3 _ _).trans ?_
    congr 2 <;> omega
  rw [dif_neg e3]
  by_cases e4 : k.val - 64 - 64 - 64 - 64 < 64
  · rw [dif_pos e4]
    refine (h4 _ _).trans ?_
    congr 2 <;> omega
  rw [dif_neg e4]
  by_cases e5 : k.val - 64 - 64 - 64 - 64 - 64 < 64
  · rw [dif_pos e5]
    refine (h5 _ _).trans ?_
    congr 2 <;> omega
  rw [dif_neg e5]
  by_cases e6 : k.val - 64 - 64 - 64 - 64 - 64 - 64 < 64
  · rw [dif_pos e6]
    refine (h6 _ _).trans ?_
    congr 2 <;> omega
  rw [dif_neg e6]
  refine (h7 _ _).trans ?_
  congr 2 <;> omega

end Cert.AttnBIdeal.Table

end
-- ==== Proof.AttnBEntry.lean ====
/- The first kernel's result: the table of the biases of every head. -/
module

public import proofs.«01_k».proof.Proof.AttnBTable
public import Idealize.ShloMosaic.Lib.Pipeline.CanonAppend

@[expose] public section

set_option maxRecDepth 16384

noncomputable section

namespace Cert.AttnBIdeal.Table

open Cert.AttnBIdeal Cert.AttnBIdeal.Gen Idealize.ShloMosaic Idealize.ShloMosaic.TcCoe Idealize.SL.Sem
open Cert.AttnBRefIdeal.Stage (firstRow firstCol)

/-- What a grid point writes: row `v` of the block holds eight tiles, from the offset `v` on. -/
def wide (x0 : Vec Ideal S7440 .f32) (i : grid0.Coords) (v : Fin 8) (a : Fin 64) (k : Fin 512) : EReal :=
  tile x0 i ⟨v.val + k.val / 64, by omega⟩ a ⟨k.val % 64, by omega⟩

/-- The place of a stored row in the block. -/
theorem stored (v : Fin 8) (inb : ∀ a, (![0, v.val, 0, 0] : Fin 4 → ℕ) a + ![1, 1, 64, 512] a ≤ S1x8x64x512.size a) (x0 x1 : Fin 1) (a : Fin 64) (k : Fin 512) :
    (Rect.unit (s := S1x8x64x512) ![0, v.val, 0, 0] ![1, 1, 64, 512] inb).emb (ix4 x0 x1 a k) = ix4 0 v a k := by
  blk_ext []

/-- A stored row's value, from its eight tiles. -/
theorem row (X : Vec Ideal S7440 .f32) (i : grid0.Coords) (v : Fin 8) (inb : ∀ a, (![0, v.val, 0, 0] : Fin 4 → ℕ) a + ![1, 1, 64, 512] a ≤ S1x8x64x512.size a)
    (P : FVec Ideal S1x1x64x512 .f32) (h : ∀ a k, P (ix4 0 0 a k) = tile X i ⟨v.val + k.val / 64, by omega⟩ a ⟨k.val % 64, by omega⟩)
    (z : S1x1x64x512.Idx) :
    P z = (fun y : S1x8x64x512.Idx => (wide X i (y 1) (y 2) (y 3) : EReal)) ((Rect.unit (s := S1x8x64x512) ![0, v.val, 0, 0] ![1, 1, 64, 512] inb).emb z) := by
  idx_vars z
  obtain rfl : z0 = 0 := Subsingleton.elim _ _
  obtain rfl : z1 = 0 := Subsingleton.elim _ _
  refine (h z2 z3).trans ?_
  exact (congrArg (fun y : S1x8x64x512.Idx => (wide X i (y 1) (y 2) (y 3) : EReal)) (stored v inb 0 0 z2 z3)).symm

/-- Row 0 of the block, as the kernel stores it. -/
theorem row0 (c : Dev nD) (i : grid0.Coords) (arg1 : Memref sig .tc .smem S7440 .f32) (harg1 : arg1.IsWhole) (X : Vec Ideal S7440 .f32)
    (z : S1x1x64x512.Idx) :
    k0_pay184 (kernelRun0_A.sl.r_34 c i arg1 harg1 X) (kernelRun0_A.sl.r_69 c i arg1 harg1 X) (kernelRun0_A.sl.r_97 c i arg1 harg1 X) (kernelRun0_A.sl.r_131 c i arg1 harg1 X) (kernelRun0_A.sl.r_166 c i arg1 harg1 X) (kernelRun0_A.sl.r_200 c i arg1 harg1 X) (kernelRun0_A.sl.r_229 c i arg1 harg1 X) (kernelRun0_A.sl.r_262 c i arg1 harg1 X) z
      = (fun y : S1x8x64x512.Idx => (wide X i (y 1) (y 2) (y 3) : EReal))
          ((Rect.unit (s := S1x8x64x512) ![0, 0, 0, 0] ![1, 1, 64, 512] inb_S1x8x64x512_S1x1x64x512_0_0_0_0).emb z) := by
  refine row X i 0 inb_S1x8x64x512_S1x1x64x512_0_0_0_0 _ (fun a k => ?_) z
  exact eight X i 0 _ _ _ _ _ _ _ _ (tile0 c i arg1 harg1 X) (tile1 c i arg1 harg1 X) (tile2 c i arg1 harg1 X) (tile3 c i arg1 harg1 X) (tile4 c i arg1 harg1 X) (tile5 c i arg1 harg1 X) (tile6 c i arg1 harg1 X) (tile7 c i arg1 harg1 X) a k

/-- Row 1 of the block, as the kernel stores it. -/
theorem row1 (c : Dev nD) (i : grid0.Coords) (arg1 : Memref sig .tc .smem S7440 .f32) (harg1 : arg1.IsWhole) (X : Vec Ideal S7440 .f32)
    (z : S1x1x64x512.Idx) :
    k0_pay185 (kernelRun0_A.sl.r_69 c i arg1 harg1 X) (kernelRun0_A.sl.r_97 c i arg1 harg1 X) (kernelRun0_A.sl.r_131 c i arg1 harg1 X) (kernelRun0_A.sl.r_166 c i arg1 harg1 X) (kernelRun0_A.sl.r_200 c i arg1 harg1 X) (kernelRun0_A.sl.r_229 c i arg1 harg1 X) (kernelRun0_A.sl.r_262 c i arg1 harg1 X) (kernelRun0_A.sl.r_297 c i arg1 harg1 X) z
      = (fun y : S1x8x64x512.Idx => (wide X i (y 1) (y 2) (y 3) : EReal))
          ((Rect.unit (s := S1x8x64x512) ![0, 1, 0, 0] ![1, 1, 64, 512] inb_S1x8x64x512_S1x1x64x512_0_1_0_0).emb z) := by
  refine row X i 1 inb_S1x8x64x512_S1x1x64x512_0_1_0_0 _ (fun a k => ?_) z
  exact eight X i 1 _ _ _ _ _ _ _ _ (tile1 c i arg1 harg1 X) (tile2 c i arg1 harg1 X) (tile3 c i arg1 harg1 X) (tile4 c i arg1 harg1 X) (tile5 c i arg1 harg1 X) (tile6 c i arg1 harg1 X) (tile7 c i arg1 harg1 X) (tile8 c i arg1 harg1 X) a k

/-- Row 2 of the block, as the kernel stores it. -/
theorem row2 (c : Dev nD) (i : grid0.Coords) (arg1 : Memref sig .tc .smem S7440 .f32) (harg1 : arg1.IsWhole) (X : Vec Ideal S7440 .f32)
    (z : S1x1x64x512.Idx) :
    k0_pay186 (kernelRun0_A.sl.r_97 c i arg1 harg1 X) (kernelRun0_A.sl.r_131 c i arg1 harg1 X) (kernelRun0_A.sl.r_166 c i arg1 harg1 X) (kernelRun0_A.sl.r_200 c i arg1 harg1 X) (kernelRun0_A.sl.r_229 c i arg1 harg1 X) (kernelRun0_A.sl.r_262 c i arg1 harg1 X) (kernelRun0_A.sl.r_297 c i arg1 harg1 X) (kernelRun0_A.sl.r_331 c i arg1 harg1 X) z
      = (fun y : S1x8x64x512.Idx => (wide X i (y 1) (y 2) (y 3) : EReal))
          ((Rect.unit (s := S1x8x64x512) ![0, 2, 0, 0] ![1, 1, 64, 512] inb_S1x8x64x512_S1x1x64x512_0_2_0_0).emb z) := by
  refine row X i 2 inb_S1x8x64x512_S1x1x64x512_0_2_0_0 _ (fun a k => ?_) z
  exact eight X i 2 _ _ _ _ _ _ _ _ (tile2 c i arg1 harg1 X) (tile3 c i arg1 harg1 X) (tile4 c i arg1 harg1 X) (tile5 c i arg1 harg1 X) (tile6 c i arg1 harg1 X) (tile7 c i arg1 harg1 X) (tile8 c i arg1 harg1 X) (tile9 c i arg1 harg1 X) a k

/-- Row 3 of the block, as the kernel stores it. -/
theorem row3 (c : Dev nD) (i : grid0.Coords) (arg1 : Memref sig .tc .smem S7440 .f32) (harg1 : arg1.IsWhole) (X : Vec Ideal S7440 .f32)
    (z : S1x1x64x512.Idx) :
    k0_pay187 (kernelRun0_A.sl.r_131 c i arg1 harg1 X) (kernelRun0_A.sl.r_166 c i arg1 harg1 X) (kernelRun0_A.sl.r_200 c i arg1 harg1 X) (kernelRun0_A.sl.r_229 c i arg1 harg1 X) (kernelRun0_A.sl.r_262 c i arg1 harg1 X) (kernelRun0_A.sl.r_297 c i arg1 harg1 X) (kernelRun0_A.sl.r_331 c i arg1 harg1 X) (kernelRun0_A.sl.r_364 c i arg1 harg1 X) z
      = (fun y : S1x8x64x512.Idx => (wide X i (y 1) (y 2) (y 3) : EReal))
          ((Rect.unit (s := S1x8x64x512) ![0, 3, 0, 0] ![1, 1, 64, 512] inb_S1x8x64x512_S1x1x64x512_0_3_0_0).emb z) := by
  refine row X i 3 inb_S1x8x64x512_S1x1x64x512_0_3_0_0 _ (fun a k => ?_) z
  exact eight X i 3 _ _ _ _ _ _ _ _ (tile3 c i arg1 harg1 X) (tile4 c i arg1 harg1 X) (tile5 c i arg1 harg1 X) (tile6 c i arg1 harg1 X) (tile7 c i arg1 harg1 X) (tile8 c i arg1 harg1 X) (tile9 c i arg1 harg1 X) (tile10 c i arg1 harg1 X) a k

/-- Row 4 of the block, as the kernel stores it. -/
theorem row4 (c : Dev nD) (i : grid0.Coords) (arg1 : Memref sig .tc .smem S7440 .f32) (harg1 : arg1.IsWhole) (X : Vec Ideal S7440 .f32)
    (z : S1x1x64x512.Idx) :
    k0_pay188 (kernelRun0_A.sl.r_166 c i arg1 harg1 X) (kernelRun0_A.sl.r_200 c i arg1 harg1 X) (kernelRun0_A.sl.r_229 c i arg1 harg1 X) (kernelRun0_A.sl.r_262 c i arg1 harg1 X) (kernelRun0_A.sl.r_297 c i arg1 harg1 X) (kernelRun0_A.sl.r_331 c i arg1 harg1 X) (kernelRun0_A.sl.r_364 c i arg1 harg1 X) (kernelRun0_A.sl.r_402 c i arg1 harg1 X) z
      = (fun y : S1x8x64x512.Idx => (wide X i (y 1) (y 2) (y 3) : EReal))
          ((Rect.unit (s := S1x8x64x512) ![0, 4, 0, 0] ![1, 1, 64, 512] inb_S1x8x64x512_S1x1x64x512_0_4_0_0).emb z) := by
  refine row X i 4 inb_S1x8x64x512_S1x1x64x512_0_4_0_0 _ (fun a k => ?_) z
  exact eight X i 4 _ _ _ _ _ _ _ _ (tile4 c i arg1 harg1 X) (tile5 c i arg1 harg1 X) (tile6 c i arg1 harg1 X) (tile7 c i arg1 harg1 X) (tile8 c i arg1 harg1 X) (tile9 c i arg1 harg1 X) (tile10 c i arg1 harg1 X) (tile11 c i arg1 harg1 X) a k

/-- Row 5 of the block, as the kernel stores it. -/
theorem row5 (c : Dev nD) (i : grid0.Coords) (arg1 : Memref sig .tc .smem S7440 .f32) (harg1 : arg1.IsWhole) (X : Vec Ideal S7440 .f32)
    (z : S1x1x64x512.Idx) :
    k0_pay189 (kernelRun0_A.sl.r_200 c i arg1 harg1 X) (kernelRun0_A.sl.r_229 c i arg1 harg1 X) (kernelRun0_A.sl.r_262 c i arg1 harg1 X) (kernelRun0_A.sl.r_297 c i arg1 harg1 X) (kernelRun0_A.sl.r_331 c i arg1 harg1 X) (kernelRun0_A.sl.r_364 c i arg1 harg1 X) (kernelRun0_A.sl.r_402 c i arg1 harg1 X) (kernelRun0_A.sl.r_441 c i arg1 harg1 X) z
      = (fun y : S1x8x64x512.Idx => (wide X i (y 1) (y 2) (y 3) : EReal))
          ((Rect.unit (s := S1x8x64x512) ![0, 5, 0, 0] ![1, 1, 64, 512] inb_S1x8x64x512_S1x1x64x512_0_5_0_0).emb z) := by
  refine row X i 5 inb_S1x8x64x512_S1x1x64x512_0_5_0_0 _ (fun a k => ?_) z
  exact eight X i 5 _ _ _ _ _ _ _ _ (tile5 c i arg1 harg1 X) (tile6 c i arg1 harg1 X) (tile7 c i arg1 harg1 X) (tile8 c i arg1 harg1 X) (tile9 c i arg1 harg1 X) (tile10 c i arg1 harg1 X) (tile11 c i arg1 harg1 X) (tile12 c i arg1 harg1 X) a k

/-- Row 6 of the block, as the kernel stores it. -/
theorem row6 (c : Dev nD) (i : grid0.Coords) (arg1 : Memref sig .tc .smem S7440 .f32) (harg1 : arg1.IsWhole) (X : Vec Ideal S7440 .f32)
    (z : S1x1x64x512.Idx) :
    k0_pay1 (kernelRun0_A.sl.r_517 c i arg1 harg1 X) z
      = (fun y : S1x8x64x512.Idx => (wide X i (y 1) (y 2) (y 3) : EReal))
          ((Rect.unit (s := S1x8x64x512) ![0, 6, 0, 0] ![1, 1, 64, 512] inb_S1x8x64x512_S1x1x64x512_0_6_0_0).emb z) := by
  refine row X i 6 inb_S1x8x64x512_S1x1x64x512_0_6_0_0 _ (fun a k => ?_) z
  exact eight X i 6 _ _ _ _ _ _ _ _ (tile6 c i arg1 harg1 X) (tile7 c i arg1 harg1 X) (tile8 c i arg1 harg1 X) (tile9 c i arg1 harg1 X) (tile10 c i arg1 harg1 X) (tile11 c i arg1 harg1 X) (tile12 c i arg1 harg1 X) (tile13 c i arg1 harg1 X) a k

/-- Row 7 of the block, as the kernel stores it. -/
theorem row7 (c : Dev nD) (i : grid0.Coords) (arg1 : Memref sig .tc .smem S7440 .f32) (harg1 : arg1.IsWhole) (X : Vec Ideal S7440 .f32)
    (z : S1x1x64x512.Idx) :
    k0_pay2 (kernelRun0_A.sl.r_262 c i arg1 harg1 X) (kernelRun0_A.sl.r_297 c i arg1 harg1 X) (kernelRun0_A.sl.r_331 c i arg1 harg1 X) (kernelRun0_A.sl.r_364 c i arg1 harg1 X) (kernelRun0_A.sl.r_402 c i arg1 harg1 X) (kernelRun0_A.sl.r_441 c i arg1 harg1 X) (kernelRun0_A.sl.r_481 c i arg1 harg1 X) (kernelRun0_A.sl.r_516 c i arg1 harg1 X) z
      = (fun y : S1x8x64x512.Idx => (wide X i (y 1) (y 2) (y 3) : EReal))
          ((Rect.unit (s := S1x8x64x512) ![0, 7, 0, 0] ![1, 1, 64, 512] inb_S1x8x64x512_S1x1x64x512_0_7_0_0).emb z) := by
  refine row X i 7 inb_S1x8x64x512_S1x1x64x512_0_7_0_0 _ (fun a k => ?_) z
  exact eight X i 7 _ _ _ _ _ _ _ _ (tile7 c i arg1 harg1 X) (tile8 c i arg1 harg1 X) (tile9 c i arg1 harg1 X) (tile10 c i arg1 harg1 X) (tile11 c i arg1 harg1 X) (tile12 c i arg1 harg1 X) (tile13 c i arg1 harg1 X) (tile14 c i arg1 harg1 X) a k

/-- The block that a head's point writes. -/
theorem block (c : Dev nD) (i : grid0.Coords) (arg1 : Memref sig .tc .smem S7440 .f32) (harg1 : arg1.IsWhole)
    (arg2 : Memref sig .tc .vmem S1x8x64x512 .f32) (harg2 : arg2.IsWhole) (X : Vec Ideal S7440 .f32) (y : S1x8x64x512.Idx) :
    out0_A_1 c i arg1 harg1 arg2 harg2 X y = wide X i (y 1) (y 2) (y 3) := by
  unfold out0_A_1
  rw [View.read_writes_junk_eq_canon, ← List.append_nil (kernelRun0_A c i arg1 harg1 arg2 harg2 X).1]
  refine View.canon_append_of_pieces (fun y : S1x8x64x512.Idx => (wide X i (y 1) (y 2) (y 3) : EReal)) [] _ ?_ y (cover0_A_1 c i arg1 harg1 arg2 harg2 X y)
  intro p hp z
  unfold kernelRun0_A at hp
  dsimp only at hp
  simp only [List.mem_cons, List.not_mem_nil, or_false] at hp
  rcases hp with rfl | rfl | rfl | rfl | rfl | rfl | rfl | rfl
  · exact row7 c i arg1 harg1 X z
  · exact row6 c i arg1 harg1 X z
  · exact row5 c i arg1 harg1 X z
  · exact row4 c i arg1 harg1 X z
  · exact row3 c i arg1 harg1 X z
  · exact row2 c i arg1 harg1 X z
  · exact row1 c i arg1 harg1 X z
  · exact row0 c i arg1 harg1 X z

variable (m : (ℓ : Loc nD τ sig) → Buf (Elt Ideal) ℓ) (ρ : Dev nD → PrngReg)

/-- Where a grid point's blocks lie in their arrays. -/
theorem places : ∀ t : Fin grid0.N, win0_0.index t = ![0] ∧ win0_1.index t = ![(grid0.coords t 0).val, 0, 0, 0] := by
  decide +kernel

/-- The biases the first kernel reads are the call's, in order. -/
theorem flat (c : Dev nD) (t : Fin cfg0.grid.N) (h : Fin 16) (y : Fin 15) (d : Fin 31) (n : Fin 7440) (hn : n.val = 465 * h.val + 31 * y.val + d.val) :
    iblk0 (V1 m ρ) c 0 t (ix1 n) = m ((c : Thread nD τ).loc main_arg1) (ix3 h y d) := by
  have v : V1 m ρ c main_v0 (ix1 n) = m ((c : Thread nD τ).loc main_arg1) (ix3 h y d) := by
    dsimp only [V1, W1]
    entry_read
    pointwise
    have e1 : (⟨n.val / 465, by omega⟩ : Fin 16) = h := Fin.ext (by simp only; omega)
    have e2 : (⟨n.val / 31 % 15, by omega⟩ : Fin 15) = y := Fin.ext (by simp only; omega)
    have e3 : (⟨n.val % 31, by omega⟩ : Fin 31) = d := Fin.ext (by simp only; omega)
    rw [e1, e2, e3]
  refine Eq.trans ?_ v
  have e : (win0_0.blk t).view.emb (ix1 n) = ix1 n := by blk_ext [places t]
  exact congrArg (V1 m ρ c main_v0) e

/-- The table's entry: row `v`, query column `a`, key `k` of the window's eight rows. -/
def bias (R : S16x15x31.Idx → EReal) (h : Fin 16) (v : Fin 8) (a : Fin 64) (k : Fin 512) : EReal :=
  if firstCol a.val ≤ k.val % 64 ∧ k.val % 64 < firstCol a.val + 16 then
    R (ix3 h ⟨v.val + k.val / 64, by omega⟩ ⟨min 30 (k.val % 64 + 15 - a.val), by omega⟩) else ⊥

/-- The table after the first kernel. -/
theorem array (c : Dev nD) :
    (dat0 (V1 m ρ) c).arrAt 1 cfg0.N = fun y : S16x8x64x512.Idx => bias (m ((c : Thread nD τ).loc main_arg1)) (y 0) (y 1) (y 2) (y 3) := by
  refine (dat0 (V1 m ρ) c).arrAt_eq_of_covers 1 _ (by decide +kernel) fun t hf y => ?_
  blk_simp
  rw [after0_1]
  refine (block c _ _ _ _ _ _ y).trans ?_
  idx_vars y
  have e : ((View.whole main_v1).slice (win0_1.rect t)).emb (ix4 y0 y1 y2 y3) = ix4 (⟨(grid0.coords t 0).val, (grid0.coords t 0).isLt⟩ : Fin 16) y1 y2 y3 := by
    blk_ext [places t]
  rw [e]
  show wide _ _ y1 y2 y3 = bias _ (⟨(grid0.coords t 0).val, (grid0.coords t 0).isLt⟩ : Fin 16) y1 y2 y3
  unfold wide tile bias
  by_cases hv : firstCol y2.val ≤ y3.val % 64 ∧ y3.val % 64 < firstCol y2.val + 16
  · rw [if_pos hv, if_pos hv]
    exact flat m ρ c t _ _ _ _ rfl
  · rw [if_neg hv, if_neg hv]

end Cert.AttnBIdeal.Table

end
-- ==== Proof.AttnBTrip.lean ====
/- One pass of the second kernel's loop: a row of queries against eight rows of keys. -/
module

public import proofs.«01_k».proof.Proof.AttnBSpec
public import proofs.«01_k».proof.Proof.Window
public import proofs.«01_k».proof.Proof.Gen.AttnBIdeal.Frame
public import Idealize.ShloMosaic.Lib.Pipeline.ValueKit
public import Idealize.ShloMosaic.Lib.Pipeline.CanonAppend

@[expose] public section

set_option maxRecDepth 16384

noncomputable section

namespace Cert.AttnBIdeal.Trip

open Cert.AttnBIdeal Cert.AttnBIdeal.Gen Idealize.ShloMosaic Idealize.ShloMosaic.TcCoe Idealize.SL.Sem
open Cert.AttnBRefIdeal.Stage (firstRow firstCol)

open Cert.AttnBRefIdeal.Stage (gated)
open Cert.Softmax

/-- A window's first row is one of the first 25. -/
theorem firstRow_le (r : ℕ) : firstRow r ≤ 24 := min_le_right _ _

/-- A window of a row among the 32 starts at most seven rows before it, and not after it. -/
theorem firstRow_near (r : ℕ) (h : r < 32) : r ≤ firstRow r + 7 ∧ firstRow r ≤ r := by
  unfold firstRow; omega

/-- A query's score of a key of its window's eight rows, from the blocks. -/
def near (X0 : Vec Ideal S1x8x64x512 .f32) (X1 X2 : Vec Ideal S2048x128 .bf16) (q : Fin 2048) (s : Fin 512) : EReal :=
  (∑ x : Fin 128, (X1 (ix2 q x) : EReal) * X2 (ix2 ⟨64 * firstRow (q.val / 64) + s.val, by have := firstRow_le (q.val / 64); omega⟩ x)) * Ideal.ofBits .f32 1035273459#32
    + X0 (ix4 0 ⟨7 + firstRow (q.val / 64) - q.val / 64, by have := firstRow_near (q.val / 64) (by omega); omega⟩ ⟨q.val % 64, by omega⟩ s)

/-- A block's entry, from the blocks. -/
def attend (X0 : Vec Ideal S1x8x64x512 .f32) (X1 X2 X3 X4 : Vec Ideal S2048x128 .bf16) (q : Fin 2048) (x : Fin 128) : EReal :=
  gated (Ideal.div (∑ s : Fin 512, weight (near X0 X1 X2 q) s * X3 (ix2 ⟨64 * firstRow (q.val / 64) + s.val, by have := firstRow_le (q.val / 64); omega⟩ x))
    (total (near X0 X1 X2 q))) (X4 (ix2 q x))

/-- The offsets of one pass's loads and store. -/
theorem offs : ∀ k : Fin k1_t1_loop.trips, k.val < 32 ∧ k1_off1 k = ![64 * k.val, 0] ∧ k1_off2 k = ![64 * firstRow k.val, 0]
    ∧ k1_off3 k = ![0, 7 + firstRow k.val - k.val, 0, 0] := by
  decide +kernel

/-- A place of one pass's rows of queries, in the block. -/
theorem rows (k : Fin k1_t1_loop.trips) (a : Fin 64) (x : Fin 128) (q : Fin 2048) (hq : q.val = 64 * k.val + a.val) :
    (Rect.unit (s := S2048x128) (k1_off1 k) ![64, 128] (k1_off1_inb k)).emb (ix2 a x) = ix2 q x := by
  funext b
  refine Fin.ext ((Rect.idx_unit_val _ _ _ _ b).trans ?_)
  refine (congrArg (· + _) (congrFun (offs k).2.1 b)).trans ?_
  fin_cases b
  · exact hq.symm
  · exact Nat.zero_add _

/-- The queries that one pass reads. -/
theorem rows' (k : Fin k1_t1_loop.trips) (a : Fin 64) (x : Fin 128) (q : Fin 2048) (hq : q.val = 64 * k.val + a.val) (X : S2048x128.Idx → EReal) (h h') :
    X (ix2 (⟨k1_off1 k 0 + a.val, h⟩ : Fin 2048) (⟨k1_off1 k 1 + x.val, h'⟩ : Fin 128)) = X (ix2 q x) := by
  refine congrArg X (congrArg₂ ix2 (Fin.ext ?_) (Fin.ext ?_)) <;> simp [(offs k).2.1, hq]

/-- The eight rows of keys one pass reads. -/
theorem keys' (k : Fin k1_t1_loop.trips) (a : Fin 512) (x : Fin 128) (q : Fin 2048) (hq : q.val / 64 = k.val) (X : S2048x128.Idx → EReal) (h h' h'') :
    X (ix2 (⟨k1_off2 k 0 + a.val, h⟩ : Fin 2048) (⟨k1_off2 k 1 + x.val, h'⟩ : Fin 128)) = X (ix2 (⟨64 * firstRow (q.val / 64) + a.val, h''⟩ : Fin 2048) x) := by
  refine congrArg X (congrArg₂ ix2 (Fin.ext ?_) (Fin.ext ?_)) <;> simp [(offs k).2.2.1, hq]

/-- The table's row one pass reads. -/
theorem table' (k : Fin k1_t1_loop.trips) (a : Fin 64) (s : Fin 512) (q : Fin 2048) (hq : q.val / 64 = k.val) (ha : q.val % 64 = a.val) (X : S1x8x64x512.Idx → EReal) (h0 h1 h2 h3 h4 h5) :
    X (ix4 (⟨k1_off3 k 0, h0⟩ : Fin 1) (⟨k1_off3 k 1, h1⟩ : Fin 8) (⟨k1_off3 k 2 + a.val, h2⟩ : Fin 64) (⟨k1_off3 k 3 + s.val, h3⟩ : Fin 512))
      = X (ix4 0 (⟨7 + firstRow (q.val / 64) - q.val / 64, h4⟩ : Fin 8) (⟨q.val % 64, h5⟩ : Fin 64) s) := by
  congr 2
  · exact Fin.ext (by simp [(offs k).2.2.2, hq])
  · exact Fin.ext (by simp [(offs k).2.2.2]; omega)
  · exact Fin.ext (by simp [(offs k).2.2.2])

/-- The softmax of a row of scores, written out. -/
theorem written (X0 : Vec Ideal S1x8x64x512 .f32) (X1 X2 X3 X4 : Vec Ideal S2048x128 .bf16) (q : Fin 2048) (x : Fin 128)
    (S V : Fin 512 → EReal) (g : EReal) (hS : ∀ s, S s = near X0 X1 X2 q s)
    (hV : ∀ s, V s = X3 (ix2 ⟨64 * firstRow (q.val / 64) + s.val, by have := firstRow_le (q.val / 64); omega⟩ x)) (hg : g = X4 (ix2 q x)) :
    Ideal.div (∑ s, Ideal.exp (S s - Finset.univ.fold max (Ideal.ofBits .f32 4286578688#32) S) * V s)
        (∑ s, Ideal.exp (S s - Finset.univ.fold max (Ideal.ofBits .f32 4286578688#32) S)) * (g * Ideal.logistic g)
      = attend X0 X1 X2 X3 X4 q x := by
  obtain rfl : S = near X0 X1 X2 q := funext hS
  subst hg
  simp only [hV, lowest]
  rfl

/-- What one pass writes. -/
theorem value (c : Dev nD) (i : grid1.Coords)
    (arg2 : Memref sig .tc .vmem S1x8x64x512 .f32) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .bf16) (harg6 : arg6.IsWhole) (arg7 : Memref sig .tc .vmem S2048x128 .bf16) (harg7 : arg7.IsWhole)
    (X0 : Vec Ideal S1x8x64x512 .f32) (X1 X2 X3 X4 : Vec Ideal S2048x128 .bf16)
    (k : Fin k1_t1_loop.trips) (p) (hp : p ∈ tripL_k1_t1 (F := Ideal) Variants.none c none i arg2 harg2 arg3 harg3 arg4 harg4 arg5 harg5 arg6 harg6 arg7 harg7
      (harg2.unread X0) (harg3.unread X1) (harg4.unread X2) (harg5.unread X3) (harg6.unread X4) k) (x : p.1.shape.Idx) :
    p.2 x = (fun y : S2048x128.Idx => attend X0 X1 X2 X3 X4 (y 0) (y 1)) (p.1.emb x) := by
  have hk := (offs k).1
  unfold tripL_k1_t1 trip_k1_t1 at hp
  dsimp only at hp
  rw [List.mem_singleton] at hp
  subst hp
  idx_vars x
  refine Eq.trans ?_ (congrArg (fun y : S2048x128.Idx => attend X0 X1 X2 X3 X4 (y 0) (y 1)) (rows k x0 x1 ⟨64 * k.val + x0.val, by omega⟩ rfl)).symm
  generalize hq : (⟨64 * k.val + x0.val, by omega⟩ : Fin 2048) = q
  have hv : q.val = 64 * k.val + x0.val := by rw [← hq]
  have hv0 : q.val / 64 = k.val := by omega
  have hv1 : q.val % 64 = x0.val := by omega
  show _ = attend X0 X1 X2 X3 X4 q x1
  frame_out
  pointwise [k1_pay1, k1_pay2]
  refine written X0 X1 X2 X3 X4 q x1 _ _ _ (fun s => ?_) (fun s => ?_) ?_
  · unfold near
    exact congrArg₂ (· + ·) (congrArg (· * _) (Finset.sum_congr rfl fun x _ => congrArg₂ (· * ·) (rows' k x0 x q hv X1 _ _) (keys' k s x q hv0 X2 _ _ _)))
      (table' k x0 s q hv0 hv1 X0 _ _ _ _ _ _)
  · exact keys' k s x1 q hv0 X3 _ _ _
  · exact rows' k x0 x1 q hv X4 _ _

/-- Every store of the first passes is a piece of the same array. -/
theorem passes (c : Dev nD) (i : grid1.Coords)
    (arg2 : Memref sig .tc .vmem S1x8x64x512 .f32) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .bf16) (harg6 : arg6.IsWhole) (arg7 : Memref sig .tc .vmem S2048x128 .bf16) (harg7 : arg7.IsWhole)
    (X0 : Vec Ideal S1x8x64x512 .f32) (X1 X2 X3 X4 : Vec Ideal S2048x128 .bf16) :
    ∀ n : ℕ, n ≤ k1_t1_loop.trips → ∀ p ∈ pb_k1_t1 (F := Ideal) Variants.none c none i arg2 harg2 arg3 harg3 arg4 harg4 arg5 harg5 arg6 harg6 arg7 harg7
      (harg2.unread X0) (harg3.unread X1) (harg4.unread X2) (harg5.unread X3) (harg6.unread X4) n, ∀ x : p.1.shape.Idx,
      p.2 x = (fun y : S2048x128.Idx => attend X0 X1 X2 X3 X4 (y 0) (y 1)) (p.1.emb x)
  | 0, _, p, hp, x => by
    rw [pb_k1_t1.eq_1] at hp
    exact absurd hp (List.not_mem_nil)
  | n + 1, hn, p, hp, x => by
    rw [show n + 1 = (⟨n, hn⟩ : Fin k1_t1_loop.trips).val + 1 from rfl, pb_k1_t1_succ, List.mem_append] at hp
    rcases hp with hp | hp
    · exact value c i arg2 harg2 arg3 harg3 arg4 harg4 arg5 harg5 arg6 harg6 arg7 harg7 X0 X1 X2 X3 X4 _ p hp x
    · exact passes c i arg2 harg2 arg3 harg3 arg4 harg4 arg5 harg5 arg6 harg6 arg7 harg7 X0 X1 X2 X3 X4 n (Nat.le_of_succ_le hn) p hp x

/-- What a grid point writes. -/
theorem block (c : Dev nD) (i : grid1.Coords)
    (arg2 : Memref sig .tc .vmem S1x8x64x512 .f32) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S2048x128 .bf16) (harg6 : arg6.IsWhole) (arg7 : Memref sig .tc .vmem S2048x128 .bf16) (harg7 : arg7.IsWhole)
    (X0 : Vec Ideal S1x8x64x512 .f32) (X1 X2 X3 X4 : Vec Ideal S2048x128 .bf16) (y : S2048x128.Idx) :
    out1_A_5 c i arg2 harg2 arg3 harg3 arg4 harg4 arg5 harg5 arg6 harg6 arg7 harg7 X0 X1 X2 X3 X4 y = attend X0 X1 X2 X3 X4 (y 0) (y 1) := by
  unfold out1_A_5
  rw [View.read_writes_junk_eq_canon, ← List.append_nil (kernelRun1_A c i arg2 harg2 arg3 harg3 arg4 harg4 arg5 harg5 arg6 harg6 arg7 harg7 X0 X1 X2 X3 X4).1]
  refine View.canon_append_of_pieces (fun y : S2048x128.Idx => attend X0 X1 X2 X3 X4 (y 0) (y 1)) [] _ ?_ y
    (cover1_A_5 c i arg2 harg2 arg3 harg3 arg4 harg4 arg5 harg5 arg6 harg6 arg7 harg7 X0 X1 X2 X3 X4 y)
  intro p hp x
  unfold kernelRun1_A at hp
  dsimp only at hp
  exact passes c i arg2 harg2 arg3 harg3 arg4 harg4 arg5 harg5 arg6 harg6 arg7 harg7 X0 X1 X2 X3 X4 _ (by decide +kernel) p hp x

end Cert.AttnBIdeal.Trip

end
-- ==== Proof.AttnB.lean ====
/- The neighbourhood attention's result is the reference's. -/
module

public import proofs.«01_k».proof.Proof.AttnBRun
public import proofs.«01_k».proof.Proof.AttnBEntry
public import proofs.«01_k».proof.Proof.AttnBTrip
public import proofs.«01_k».proof.Proof.Gen.AttnBRefIdeal.Run
public import proofs.«01_k».proof.Proof.Gen.AttnBRefIdeal.Read
public import proofs.«01_k».proof.Proof.Gen.Pre_finite_b
public import proofs.«01_k».proof.Defs

@[expose] public section

set_option maxRecDepth 16384

noncomputable section

namespace Cert.AttnBIdeal.Array

open Cert.AttnBIdeal Cert.AttnBIdeal.Gen Idealize.ShloMosaic Idealize.ShloMosaic.TcCoe Idealize.SL.Sem
open Cert.AttnBRefIdeal.Stage Cert.AttnBIdeal.Trip Cert.AttnBIdeal.Table Cert.Softmax

/-- A sink at minus infinity weighs nothing. -/
theorem no_sink {n : ℕ} (S v : Fin n → EReal) : sinkMix S ⊥ v = Ideal.div (∑ s, weight S s * v s) (total S) := by
  have rf : roof S ⊥ = peak S := max_eq_left bot_le
  have w : ∀ s, sinkWeight S ⊥ s = weight S s := fun s => by rw [sinkWeight, weight, rf]
  rw [sinkMix, sinkTotal, total]
  simp only [w]
  rw [bot_less, show Ideal.exp (⊥ : EReal) = 0 by simp, add_zero]

/-- With a real largest score, dividing the mixed values at the end is mixing them by the softmax. -/
theorem mixed_end {n : ℕ} (S v : Fin n → EReal) (i : Fin n) (h : IsReal (peak S)) :
    Ideal.div (∑ s, weight S s * v s) (total S) = ∑ s, v s * soft S s := by
  have h0 := total_pos S i h
  rw [div_sum _ h0]
  refine Finset.sum_congr rfl fun s _ => ?_
  rw [soft]
  simp only [Ideal.div, h0.ne', if_false]
  rw [mul_comm (weight S s), mul_assoc]

/-- What the blocks of one head of one batch hold. -/
structure Blocks (P : S8192x8192.Idx → EReal) (R : S16x15x31.Idx → EReal) (b : Fin 4) (h : Fin 16)
    (X0 : Vec Ideal S1x8x64x512 .f32) (X1 X2 X3 : Vec Ideal S2048x128 .bf16) : Prop where
  table : ∀ v a s, X0 (ix4 0 v a s) = bias R h v a s
  queries : ∀ q x, X1 (ix2 q x) = queryAt P b h q x
  keys : ∀ s x, X2 (ix2 s x) = keyAt P b h s x
  values : ∀ s x, X3 (ix2 s x) = valueAt P b h x s

section Row

variable {P : S8192x8192.Idx → EReal} {R : S16x15x31.Idx → EReal} {b : Fin 4} {h : Fin 16}
  {X0 : Vec Ideal S1x8x64x512 .f32} {X1 X2 X3 : Vec Ideal S2048x128 .bf16}

/-- A score of the window's eight rows is the reference's of the same key. -/
theorem near_eq (B : Blocks P R b h X0 X1 X2 X3) (t : Fin 2048) (a : Fin 512) (s : Fin 2048) (hs : s.val = 64 * firstRow (t.val / 64) + a.val) :
    near X0 X1 X2 t a = score P R b h t s := by
  have f0 := firstRow_le (t.val / 64)
  have f1 := firstRow_near (t.val / 64) (by omega)
  have s0 : s.val / 64 = firstRow (t.val / 64) + a.val / 64 := by omega
  have s1 : s.val % 64 = a.val % 64 := by omega
  have es : (⟨64 * firstRow (t.val / 64) + a.val, by omega⟩ : Fin 2048) = s := Fin.ext hs.symm
  have inside : Inside t.val s.val ↔ firstCol (t.val % 64) ≤ a.val % 64 ∧ a.val % 64 < firstCol (t.val % 64) + 16 := by
    unfold Inside
    rw [s0, s1]
    exact ⟨fun q => q.2, fun q => ⟨⟨by omega, by omega⟩, q⟩⟩
  unfold near score
  rw [es, B.table]
  simp only [B.queries, B.keys]
  unfold bias
  by_cases hc : firstCol (t.val % 64) ≤ a.val % 64 ∧ a.val % 64 < firstCol (t.val % 64) + 16
  · rw [if_pos hc, if_pos (inside.2 hc)]
    refine congrArg₂ (· + ·) rfl ?_
    unfold biasAt
    refine congrArg R (congrArg₂ (ix3 h) (Fin.ext ?_) (Fin.ext ?_))
    · simp only; omega
    · simp only [s1]
  · rw [if_neg hc, if_neg fun q => hc (inside.1 q), EReal.add_bot]

/-- A key outside the window's rows scores minus infinity. -/
theorem outside (t s : Fin 2048) (hs : ∀ a : Fin 512, s.val ≠ 64 * firstRow (t.val / 64) + a.val) : score P R b h t s = ⊥ := by
  refine if_neg fun q => ?_
  obtain ⟨⟨q0, q1⟩, -⟩ := q
  exact hs ⟨s.val - 64 * firstRow (t.val / 64), by omega⟩ (by simp only; omega)

/-- A block's entry is the reference's. -/
theorem attend_eq (B : Blocks P R b h X0 X1 X2 X3) (X4 : Vec Ideal S2048x128 .bf16) (t : Fin 2048) (x : Fin 128) (hp : IsReal (peak (score P R b h t))) :
    attend X0 X1 X2 X3 X4 t x = gated (∑ s : Fin 2048, valueAt P b h x s * soft (score P R b h t) s) (X4 (ix2 t x)) := by
  have f0 := firstRow_le (t.val / 64)
  unfold attend
  rw [← no_sink, ← mixed_end _ _ t hp, ← no_sink]
  refine congrArg (fun o => gated o _) ?_
  refine sinkMix_partners (fun a s => s.val = 64 * firstRow (t.val / 64) + a.val) _ _ _ _ _ 0 0 (fun a a' s p q => Fin.ext (by omega))
    (fun a s s' p q => Fin.ext (by omega)) (fun a s p => near_eq B t a s p) (fun a s p => ?_) (fun a p => ?_) (fun s p => outside t s p)
  · rw [B.values]
    exact congrArg (valueAt P b h x) (Fin.ext p.symm)
  · exact absurd rfl (p ⟨64 * firstRow (t.val / 64) + a.val, by omega⟩)

end Row

variable (m : (ℓ : Loc nD τ sig) → Buf (Elt Ideal) ℓ) (ρ : Dev nD → PrngReg)

/-- The projections and the biases that the call takes. -/
abbrev proj (c : Dev nD) : S8192x8192.Idx → EReal := m ((c : Thread nD τ).loc main_arg0)
/-- The biases that the call takes. -/
abbrev rpb (c : Dev nD) : S16x15x31.Idx → EReal := m ((c : Thread nD τ).loc main_arg1)

/-- Where a grid point's blocks lie in their arrays. -/
theorem places : ∀ t : Fin grid1.N, win1_0.index t = ![(grid1.coords t 0).val, 0, 0, 0]
    ∧ win1_1.index t = ![(grid1.coords t 1).val, (grid1.coords t 0).val]
    ∧ win1_2.index t = ![(grid1.coords t 1).val, 16 + (grid1.coords t 0).val]
    ∧ win1_3.index t = ![(grid1.coords t 1).val, 32 + (grid1.coords t 0).val]
    ∧ win1_4.index t = ![(grid1.coords t 1).val, 48 + (grid1.coords t 0).val]
    ∧ win1_5.index t = ![(grid1.coords t 1).val, (grid1.coords t 0).val] := by
  decide +kernel

/-- The table's kernel leaves the projections as they were. -/
theorem kept (c : Dev nD) : V2 m ρ c main_arg0 = proj m c := W2_args m ρ c main_arg0 (by decide)

/-- What the attention's blocks hold at a grid point. -/
theorem blocks (c : Dev nD) (t : Fin cfg1.grid.N) (b : Fin 4) (h : Fin 16) (hb : b.val = (grid1.coords t 1).val) (hh : h.val = (grid1.coords t 0).val) :
    Blocks (proj m c) (rpb m c) b h (iblk1 (V2 m ρ) c 0 t) (iblk1 (V2 m ρ) c 1 t) (iblk1 (V2 m ρ) c 2 t) (iblk1 (V2 m ρ) c 3 t) where
  table v a s := by
    have e : (win1_0.blk t).view.emb (ix4 0 v a s) = ix4 h v a s := by blk_ext [places t]
    refine (congrArg (V2 m ρ c main_v1) e).trans ?_
    refine (congrFun (W2_arr m ρ c 1) (ix4 h v a s)).trans ?_
    exact congrFun (Table.array m ρ c) (ix4 h v a s)
  queries q x := by
    have e : (win1_1.blk t).view.emb (ix2 q x) = ix2 (⟨b.val * 2048 + q.val, by omega⟩ : Fin 8192) (⟨h.val * 128 + x.val, by omega⟩ : Fin 8192) := by blk_ext [places t]
    exact (congrArg (V2 m ρ c main_arg0) e).trans (congrFun (kept m ρ c) _)
  keys q x := by
    have e : (win1_2.blk t).view.emb (ix2 q x) = ix2 (⟨b.val * 2048 + q.val, by omega⟩ : Fin 8192) (⟨2048 + (h.val * 128 + x.val), by omega⟩ : Fin 8192) := by blk_ext [places t]
    exact (congrArg (V2 m ρ c main_arg0) e).trans (congrFun (kept m ρ c) _)
  values q x := by
    have e : (win1_3.blk t).view.emb (ix2 q x) = ix2 (⟨b.val * 2048 + q.val, by omega⟩ : Fin 8192) (⟨4096 + (h.val * 128 + x.val), by omega⟩ : Fin 8192) := by blk_ext [places t]
    exact (congrArg (V2 m ρ c main_arg0) e).trans (congrFun (kept m ρ c) _)

/-- The gate's block at a grid point. -/
theorem gates (c : Dev nD) (t : Fin cfg1.grid.N) (b : Fin 4) (h : Fin 16) (hb : b.val = (grid1.coords t 1).val) (hh : h.val = (grid1.coords t 0).val)
    (q : Fin 2048) (x : Fin 128) :
    iblk1 (V2 m ρ) c 4 t (ix2 q x) = proj m c (ix2 ⟨b.val * 2048 + q.val, by omega⟩ ⟨6144 + (h.val * 128 + x.val), by omega⟩) := by
  have e : (win1_4.blk t).view.emb (ix2 q x) = ix2 (⟨b.val * 2048 + q.val, by omega⟩ : Fin 8192) (⟨6144 + (h.val * 128 + x.val), by omega⟩ : Fin 8192) := by blk_ext [places t]
  exact (congrArg (V2 m ρ c main_arg0) e).trans (congrFun (kept m ρ c) _)

/-- A number's magnitude. -/
def magnitude (x : EReal) : EReal := max x (-x)

/-- The queries and keys are real numbers. -/
theorem real (c : Dev nD) (hp : Cert.Pre_AttnBIdeal_finite_b m) (r k : Fin 8192) (hk : k.val < 4096) : IsReal (proj m c (ix2 r k)) := by
  have e : Cert.Pre_finite_b.fn (F := Ideal) (proj m c) (rpb m c) (ix1 ⟨r.val * 4096 + k.val, by omega⟩)
      = Ideal.cmp .olt (magnitude (proj m c (ix2 r k))) (Ideal.ofBits .f32 0x7F800000#32) := by
    pointwise [Cert.Pre_finite_b.fn, magnitude, Ideal.absf_def]
    have e0 : (r.val * 4096 + k.val) / 4096 = r.val := by omega
    have e1 : (r.val * 4096 + k.val) % 4096 = k.val := by omega
    rw [dif_pos (by omega)]
    simp only [e0, e1, Fin.eta]
  rw [congrFun (hp c), highest] at e
  exact isReal_of_below e.symm

/-- The biases are real numbers. -/
theorem real_bias (c : Dev nD) (hp : Cert.Pre_AttnBIdeal_finite_b m) (h : Fin 16) (y : Fin 15) (d : Fin 31) : IsReal (rpb m c (ix3 h y d)) := by
  obtain ⟨n, hn⟩ : ∃ n : Fin 33561872, n.val = 33554432 + (465 * h.val + 31 * y.val + d.val) := ⟨⟨33554432 + (465 * h.val + 31 * y.val + d.val), by omega⟩, rfl⟩
  have e : Cert.Pre_finite_b.fn (F := Ideal) (proj m c) (rpb m c) (ix1 n)
      = Ideal.cmp .olt (magnitude (rpb m c (ix3 h y d))) (Ideal.ofBits .f32 0x7F800000#32) := by
    pointwise [Cert.Pre_finite_b.fn, magnitude, Ideal.absf_def]
    rw [dif_neg (by omega)]
    have e1 : (⟨(n.val - 33554432) / 465, by omega⟩ : Fin 16) = h := Fin.ext (by simp only; omega)
    have e2 : (⟨(n.val - 33554432) / 31 % 15, by omega⟩ : Fin 15) = y := Fin.ext (by simp only; omega)
    have e3 : (⟨(n.val - 33554432) % 31, by omega⟩ : Fin 31) = d := Fin.ext (by simp only; omega)
    rw [e1, e2, e3]
  rw [congrFun (hp c), highest] at e
  exact isReal_of_below e.symm

/-- A score inside the window is a real number. -/
theorem real_score (c : Dev nD) (hp : Cert.Pre_AttnBIdeal_finite_b m) (b : Fin 4) (h : Fin 16) (t s : Fin 2048) (hi : Inside t.val s.val) :
    IsReal (score (proj m c) (rpb m c) b h t s) := by
  rw [score, if_pos hi]
  refine IsReal.add (IsReal.mul (IsReal.sum fun x => IsReal.mul (real m c hp _ _ (by simp only; omega)) (real m c hp _ _ (by simp only; omega))) ?_)
    (real_bias m c hp _ _ _)
  refine ⟨?_, ?_⟩ <;> simp [Ideal.ofBits, Ideal.ieee, -EReal.coe_mul]

/-- A query's own key is in its window. -/
theorem own (t : Fin 2048) : Inside t.val t.val := by
  unfold Inside firstRow firstCol
  omega

/-- A row's largest score is a real number. -/
theorem real_peak (c : Dev nD) (hp : Cert.Pre_AttnBIdeal_finite_b m) (b : Fin 4) (h : Fin 16) (t : Fin 2048) :
    IsReal (peak (score (proj m c) (rpb m c) b h t)) := by
  obtain ⟨s, hs⟩ := peak_mem (score (proj m c) (rpb m c) b h t) t
  by_cases hi : Inside t.val s.val
  · exact hs ▸ real_score m c hp b h t s hi
  · refine absurd (le_peak (score (proj m c) (rpb m c) b h t) t) ?_
    rw [hs, show score (proj m c) (rpb m c) b h t s = ⊥ from if_neg hi]
    exact fun q => (real_score m c hp b h t t (own t)).2 (le_bot_iff.1 q)

/-- The result's array is the reference's. -/
theorem array (c : Dev nD) (hp : Cert.Pre_AttnBIdeal_finite_b m) :
    (dat1 (V2 m ρ) c).arrAt 5 cfg1.N = Cert.AttnBRefIdeal.Read.val_main_v106 (F := Ideal) (proj m c) (rpb m c) := by
  refine (dat1 (V2 m ρ) c).arrAt_eq_of_covers 5 _ (by decide +kernel) fun t hf y => ?_
  blk_simp
  rw [after1_5]
  refine (Trip.block c _ _ _ _ _ _ _ _ _ _ _ _ _ _ _ _ _ _ y).trans ?_
  idx_vars y
  have hi0 : (grid1.coords t 0).val < 16 := (grid1.coords t 0).isLt
  have hi1 : (grid1.coords t 1).val < 4 := (grid1.coords t 1).isLt
  have e : ((View.whole main_v2).slice (win1_5.rect t)).emb (ix2 y0 y1)
      = ix2 (⟨(grid1.coords t 1).val * 2048 + y0.val, by omega⟩ : Fin 8192) (⟨(grid1.coords t 0).val * 128 + y1.val, by omega⟩ : Fin 2048) := by
    blk_ext [places t]
  rw [e]
  refine (attend_eq (blocks m ρ c t ⟨_, hi1⟩ ⟨_, hi0⟩ rfl rfl) _ y0 y1 (real_peak m c hp _ _ _)).trans ?_
  rw [at106 (proj m c) (rpb m c) _ _ ⟨_, hi1⟩ ⟨_, hi0⟩ y0 y1 rfl rfl]
  exact congrArg (gated _) (gates m ρ c t ⟨_, hi1⟩ ⟨_, hi0⟩ rfl rfl y0 y1)

/-- The call and the reference's lines end with the same arrays, on every device, from real queries, keys and biases. -/
theorem algebraic : Cert.algebraic_AttnBIdeal_AttnBRefIdeal_pre_finite_b := by
  intro m g m' g' hp h
  refine ⟨fun c => (dat1 (V2 m g) c).arrAt 5 cfg1.N, Ends.run m g, ?_⟩
  refine (θ_run _ _ _).mono (fun r hr c => ?_) (Cert.AttnBRefIdeal.Value.run m' g')
  obtain ⟨r0, hkept⟩ := hr c
  obtain ⟨h0, h1⟩ := h c
  refine ⟨?_, hkept⟩
  refine r0.trans ((Cert.AttnBRefIdeal.Read.val_main_v106_eq m' c).trans (Eq.trans ?_ (array m g c hp).symm))
  rw [h0, h1]

end Cert.AttnBIdeal.Array

end
-- ==== Proof.lean ====
module

public import proofs.«01_k».proof.Defs
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj
public import proofs.«01_k».proof.Proof.Gen.InProjA.Frame
public import proofs.«01_k».proof.Proof.Gen.InProjAIdeal.Frame
public import proofs.«01_k».proof.Proof.Gen.InProjAIdeal.Value
public import proofs.«01_k».proof.Proof.Gen.InProjARefIdeal.Run
public import proofs.«01_k».proof.Proof.Gen.InProjARefIdeal.Read
public import proofs.«01_k».proof.Proof.InProjA
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.Tail
public import proofs.«01_k».proof.Proof.Gen.TailLast.Frame
public import proofs.«01_k».proof.Proof.Gen.TailLastIdeal.Frame
public import proofs.«01_k».proof.Proof.Gen.TailLastIdeal.Value
public import proofs.«01_k».proof.Proof.Gen.TailLastRefIdeal.Run
public import proofs.«01_k».proof.Proof.Gen.TailLastRefIdeal.Read
public import proofs.«01_k».proof.Proof.TailLast
public import proofs.«01_k».proof.Proof.Gen.Prenorm.Frame
public import proofs.«01_k».proof.Proof.Gen.PrenormIdeal.Frame
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Prenorm
public import proofs.«01_k».proof.Proof.Gen.AttnC.Frame
public import proofs.«01_k».proof.Proof.Gen.AttnCIdeal.Frame
public import proofs.«01_k».proof.Proof.Gen.AttnCIdeal.Value
public import proofs.«01_k».proof.Proof.Gen.AttnCRefIdeal.Run
public import proofs.«01_k».proof.Proof.Gen.AttnCRefIdeal.Read
public import proofs.«01_k».proof.Proof.AttnC
public import proofs.«01_k».proof.Proof.Gen.Pre_finite_qk
public import proofs.«01_k».proof.Proof.Gen.AttnA.Frame
public import proofs.«01_k».proof.Proof.Gen.AttnAIdeal.Frame
public import proofs.«01_k».proof.Proof.Gen.AttnAIdeal.Value
public import proofs.«01_k».proof.Proof.Gen.AttnARefIdeal.Run
public import proofs.«01_k».proof.Proof.Gen.AttnARefIdeal.Read
public import proofs.«01_k».proof.Proof.AttnA
public import proofs.«01_k».proof.Proof.Gen.Pre_finite_a
public import proofs.«01_k».proof.Proof.Gen.AttnB.Frame
public import proofs.«01_k».proof.Proof.Gen.AttnBIdeal.Frame
public import proofs.«01_k».proof.Proof.Gen.AttnBRefIdeal.Run
public import proofs.«01_k».proof.Proof.Gen.AttnBRefIdeal.Read
public import proofs.«01_k».proof.Proof.AttnB
public import proofs.«01_k».proof.Proof.Gen.Pre_finite_b
public import Idealize.ShloMosaic.Adequacy
public import Idealize.ShloMosaic.Init

@[expose] public section

noncomputable section

namespace Cert.Proof

open Idealize.ShloMosaic Idealize.SL.Sem

theorem claim : Cert.Claim := ⟨Cert.InProj.Gen.facts, Cert.InProjIdeal.Gen.facts, Cert.InProjRefIdeal.Gen.facts, Cert.InProjA.Gen.facts, Cert.InProjAIdeal.Gen.facts, Cert.InProjARefIdeal.Gen.facts, Cert.Tail.Gen.facts, Cert.TailIdeal.Gen.facts, Cert.TailRefIdeal.Gen.facts, Cert.TailLast.Gen.facts, Cert.TailLastIdeal.Gen.facts, Cert.TailLastRefIdeal.Gen.facts, Cert.Prenorm.Gen.facts, Cert.PrenormIdeal.Gen.facts, Cert.PrenormRefIdeal.Gen.facts, Cert.AttnC.Gen.facts, Cert.AttnCIdeal.Gen.facts, Cert.AttnCRefIdeal.Gen.facts, Cert.AttnA.Gen.facts, Cert.AttnAIdeal.Gen.facts, Cert.AttnARefIdeal.Gen.facts, Cert.AttnB.Gen.facts, Cert.AttnBIdeal.Gen.facts, Cert.AttnBRefIdeal.Gen.facts, Cert.Pre_finite_qk.Gen.facts, Cert.Pre_finite_a.Gen.facts, Cert.Pre_finite_b.Gen.facts,
  fun m ρ _ => Cert.InProj.Gen.frame m ρ,
  fun m ρ _ => Cert.InProjIdeal.Gen.frame m ρ,
  fun m ρ _ => (θ_run Cert.InProjRefIdeal.defs _ _).mono (fun r h => ⟨fun c => (h c).2, sem_eq_zero_of_no_sems (by decide) r.2⟩)
    (Cert.InProjRefIdeal.Value.run m ρ),
  fun m ρ _ => Cert.InProjA.Gen.frame m ρ,
  fun m ρ _ => Cert.InProjAIdeal.Gen.frame m ρ,
  fun m ρ _ => (θ_run Cert.InProjARefIdeal.defs _ _).mono (fun r h => ⟨fun c => (h c).2, sem_eq_zero_of_no_sems (by decide) r.2⟩)
    (Cert.InProjARefIdeal.Value.run m ρ),
  fun m ρ _ => Cert.Tail.Gen.frame m ρ,
  fun m ρ _ => Cert.TailIdeal.Gen.frame m ρ,
  fun m ρ _ => (θ_run Cert.TailRefIdeal.defs _ _).mono (fun r h => ⟨fun c => (h c).2.2, sem_eq_zero_of_no_sems (by decide) r.2⟩)
    (Cert.TailRefIdeal.Value.run m ρ),
  fun m ρ _ => Cert.TailLast.Gen.frame m ρ,
  fun m ρ _ => Cert.TailLastIdeal.Gen.frame m ρ,
  fun m ρ _ => (θ_run Cert.TailLastRefIdeal.defs _ _).mono (fun r h => ⟨fun c => (h c).2, sem_eq_zero_of_no_sems (by decide) r.2⟩)
    (Cert.TailLastRefIdeal.Value.run m ρ),
  fun m ρ _ => Cert.Prenorm.Gen.frame m ρ,
  fun m ρ _ => Cert.PrenormIdeal.Gen.frame m ρ,
  fun m ρ _ => (θ_run Cert.PrenormRefIdeal.defs _ _).mono (fun r h => ⟨fun c => (h c).2, sem_eq_zero_of_no_sems (by decide) r.2⟩)
    (Cert.PrenormRefIdeal.Value.run m ρ),
  fun m ρ _ => Cert.AttnC.Gen.frame m ρ,
  fun m ρ _ => Cert.AttnCIdeal.Gen.frame m ρ,
  fun m ρ _ => Cert.AttnCIdeal.Gen.frame m ρ,
  fun m ρ _ => (θ_run Cert.AttnCRefIdeal.defs _ _).mono (fun r h => ⟨fun c => (h c).2, sem_eq_zero_of_no_sems (by decide) r.2⟩)
    (Cert.AttnCRefIdeal.Value.run m ρ),
  fun m ρ _ => (θ_run Cert.AttnCRefIdeal.defs _ _).mono (fun r h => ⟨fun c => (h c).2, sem_eq_zero_of_no_sems (by decide) r.2⟩)
    (Cert.AttnCRefIdeal.Value.run m ρ),
  fun m ρ _ => Cert.AttnA.Gen.frame m ρ,
  fun m ρ _ => Cert.AttnAIdeal.Gen.frame m ρ,
  fun m ρ _ => Cert.AttnAIdeal.Gen.frame m ρ,
  fun m ρ _ => (θ_run Cert.AttnARefIdeal.defs _ _).mono (fun r h => ⟨fun c => (h c).2, sem_eq_zero_of_no_sems (by decide) r.2⟩)
    (Cert.AttnARefIdeal.Value.run m ρ),
  fun m ρ _ => (θ_run Cert.AttnARefIdeal.defs _ _).mono (fun r h => ⟨fun c => (h c).2, sem_eq_zero_of_no_sems (by decide) r.2⟩)
    (Cert.AttnARefIdeal.Value.run m ρ),
  fun m ρ _ => Cert.AttnB.Gen.frame m ρ,
  fun m ρ _ => Cert.AttnBIdeal.Gen.frame m ρ,
  fun m ρ _ => Cert.AttnBIdeal.Gen.frame m ρ,
  fun m ρ _ => (θ_run Cert.AttnBRefIdeal.defs _ _).mono (fun r h => ⟨fun c => (h c).2, sem_eq_zero_of_no_sems (by decide) r.2⟩)
    (Cert.AttnBRefIdeal.Value.run m ρ),
  fun m ρ _ => (θ_run Cert.AttnBRefIdeal.defs _ _).mono (fun r h => ⟨fun c => (h c).2, sem_eq_zero_of_no_sems (by decide) r.2⟩)
    (Cert.AttnBRefIdeal.Value.run m ρ),
  trivial,
  Cert.InProjIdeal.Array.algebraic,
  trivial,
  Cert.InProjAIdeal.Array.algebraic,
  trivial,
  Cert.TailIdeal.Array.algebraic,
  trivial,
  Cert.TailLastIdeal.Array.algebraic,
  trivial,
  Cert.PrenormIdeal.Array.algebraic,
  trivial,
  Cert.AttnCIdeal.Array.algebraic,
  Idealize.ShloMosaic.IdealRules.named_const.statement Cert.AttnAIdeal.κ "mask" .f32 0xF149F2CA#32 ⊥ rfl,
  Cert.AttnAIdeal.Array.algebraic,
  Idealize.ShloMosaic.IdealRules.named_const.statement Cert.AttnBIdeal.κ "mask" .f32 0xF149F2CA#32 ⊥ rfl,
  Cert.AttnBIdeal.Array.algebraic⟩

end Cert.Proof

end
